-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied_KernelIdeal [hPre_untied_KernelIdeal : Cert.Pre_untied_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_untied_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied_ReferenceIdeal [hPre_untied_ReferenceIdeal : Cert.Pre_untied_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_untied_KernelIdeal [hKernelIdeal : Cert.KernelIdeal.Facts] [hPre_untied_KernelIdeal : Cert.Pre_untied_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_untied_ReferenceIdeal [hReferenceIdeal : Cert.ReferenceIdeal.Facts] [hPre_untied_ReferenceIdeal : Cert.Pre_untied_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_untied_KernelIdeal [hKernelIdeal : Cert.KernelIdeal.Facts] [hReferenceIdeal : Cert.ReferenceIdeal.Facts] [hPre_untied_KernelIdeal : Cert.Pre_untied_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untied_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 4, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_untied_KernelIdeal : Cert.Pre_untied_KernelIdeal.Facts) (hPre_untied_ReferenceIdeal : Cert.Pre_untied_ReferenceIdeal.Facts),
    quiescent_Kernel (hKernel := hKernel)
    ∧ quiescent_KernelIdeal (hKernelIdeal := hKernelIdeal)
    ∧ quiescent_KernelIdeal_pre_untied_KernelIdeal (hKernelIdeal := hKernelIdeal) (hPre_untied_KernelIdeal := hPre_untied_KernelIdeal)
    ∧ quiescent_ReferenceIdeal (hReferenceIdeal := hReferenceIdeal)
    ∧ quiescent_ReferenceIdeal_pre_untied_ReferenceIdeal (hReferenceIdeal := hReferenceIdeal) (hPre_untied_ReferenceIdeal := hPre_untied_ReferenceIdeal)
    ∧ preserves_Kernel_KernelIdeal
    ∧ algebraic_KernelIdeal_ReferenceIdeal_pre_untied_KernelIdeal (hKernelIdeal := hKernelIdeal) (hReferenceIdeal := hReferenceIdeal) (hPre_untied_KernelIdeal := hPre_untied_KernelIdeal)
-- ==== Pre_untied_KernelIdeal.lean ====
abbrev S256x1024 : Shape := ⟨2, ![256, 1024]⟩
abbrev S256x7 : Shape := ⟨2, ![256, 7]⟩
abbrev S_ : Shape := ⟨0, ![]⟩

class Facts : Prop where
  slices_S256x1024_S256x7_0_1017 : S256x1024.Slices ![0, 1017] S256x7
  slices_S256x1024_S256x7_0_1016 : S256x1024.Slices ![0, 1016] S256x7
  reducesTo_S256x7_S_d0_1 : S256x7.ReducesTo [0, 1] S_
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x1024 .f32) : FVec F S256x1024 .f32 :=
  let v0 : FVec F S256x1024 .f32 := (fun x => Host.sort S256x1024 1 comparator_f32_d1 x) arg0
  v0

def fn {F : FTy → Type} [FloatOps F] (main_arg0 : FVec F S256x1024 .f32) : IVec S_ 1 :=
  let main_v0 : FVec F S256x1024 .f32 := fn_sort (F := F) main_arg0
  let main_v1 : FVec F S256x7 .f32 := (extractStridedSlice S256x7 ![0, 1017] · slices_S256x1024_S256x7_0_1017) main_v0
  let main_v2 : FVec F S256x7 .f32 := (extractStridedSlice S256x7 ![0, 1016] · slices_S256x1024_S256x7_0_1016) main_v0
  let main_v3 : IVec S256x7 1 := cmpf .ogt main_v1 main_v2
  let main_c : IVec S_ 1 := constantI S_ 1 1#1
  let main_v4 : IVec S_ 1 := (fun x v => Host.reduce IntOp.andi x v reducesTo_S256x7_S_d0_1 h_S_) main_v3 main_c
  main_v4
-- ==== Pre_untied_ReferenceIdeal.lean ====
abbrev S256x2048 : Shape := ⟨2, ![256, 2048]⟩
abbrev S256x7 : Shape := ⟨2, ![256, 7]⟩
abbrev S_ : Shape := ⟨0, ![]⟩

class Facts : Prop where
  slices_S256x2048_S256x7_0_2041 : S256x2048.Slices ![0, 2041] S256x7
  slices_S256x2048_S256x7_0_2040 : S256x2048.Slices ![0, 2040] S256x7
  reducesTo_S256x7_S_d0_1 : S256x7.ReducesTo [0, 1] S_
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x2048 .f32) : FVec F S256x2048 .f32 :=
  let v0 : FVec F S256x2048 .f32 := (fun x => Host.sort S256x2048 1 comparator_f32_d1 x) arg0
  v0

def fn {F : FTy → Type} [FloatOps F] (main_arg0 : FVec F S256x2048 .f32) : IVec S_ 1 :=
  let main_v0 : FVec F S256x2048 .f32 := fn_sort (F := F) main_arg0
  let main_v1 : FVec F S256x7 .f32 := (extractStridedSlice S256x7 ![0, 2041] · slices_S256x2048_S256x7_0_2041) main_v0
  let main_v2 : FVec F S256x7 .f32 := (extractStridedSlice S256x7 ![0, 2040] · slices_S256x2048_S256x7_0_2040) main_v0
  let main_v3 : IVec S256x7 1 := cmpf .ogt main_v1 main_v2
  let main_c : IVec S_ 1 := constantI S_ 1 1#1
  let main_v4 : IVec S_ 1 := (fun x v => Host.reduce IntOp.andi x v reducesTo_S256x7_S_d0_1 h_S_) main_v3 main_c
  main_v4
-- ==== Kernel.lean ====
abbrev S256x1024 : Shape := ⟨2, ![256, 1024]⟩
abbrev S256x8 : Shape := ⟨2, ![256, 8]⟩
abbrev S_ : Shape := ⟨0, ![]⟩
abbrev S256x128 : Shape := ⟨2, ![256, 128]⟩
abbrev S256 : Shape := ⟨1, ![256]⟩
abbrev S256x1 : Shape := ⟨2, ![256, 1]⟩
abbrev S256x4 : Shape := ⟨2, ![256, 4]⟩
abbrev S256x2 : Shape := ⟨2, ![256, 2]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S256x8, .f32⟩
  | .local _ .vmem, ⟨3, _⟩ => ⟨S256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_19 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_18 : BitVec 32 := 16#32
  let v127 : BitVec 32 := Scalar.muli v9 c16_i32_18
  let v128 : BitVec 32 := Scalar.addi c0_i32_19 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_20 : BitVec 32 := 4#32
  let v129 : BitVec 32 := Scalar.muli v5 c4_i32_20
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v131 : BitVec 32 := Scalar.muli v8 c1_i32_21
  let v132 : BitVec 32 := Scalar.addi v130 v131
  v132.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.KernelIdeal.Protocol.lean ====
/-
The exchange of the kernel as rounds on three semaphore cells a device, for any float values.

Device `c` of the 2 x 4 x 4 mesh has a partner: the device with the other coordinate along the first axis. The
cells of a device are its barrier semaphore (the runtime's, not scoped to the kernel), its send semaphore and its
receive semaphore. Each is used for one round:
* the barrier cell of `c` is signalled by the partner of `c`, which hands over its landing buffer;
* the receive cell of `c` is credited by the partner's transfer, which leaves the partner's eight largest entries
  of every row in the landing buffer of `c`;
* the send cell of `c` is credited by its own transfer, which gives back the half share of the buffer it read.
The buffer the transfer reads is kept at the other half, because the kernel loads it while the transfer is in flight.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Topk

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the kernel stores -/

/-- The eight columns the kernel keeps of a device's block: what it stores in its own scratch and sends. -/
def topOf (x : Vec F S256x1024 .f32) : FVec F S256x8 .f32 :=
  have a := k0_pay15 x
  have b := k0_pay18 x
  have d := k0_pay19 x
  have e := k0_pay20 x
  have f := k0_pay22 x
  have g := k0_pay24 x
  have h := k0_pay25 x
  have i := k0_pay26 x
  have j := k0_pay27 x
  k0_pay73 (k0_pay48 a h) (k0_pay56 a d e h i j) (k0_pay63 a d e h i j)
    (k0_pay66 a b d e f g h i j) (k0_pay67 a b d e f g h i j) (k0_pay68 a b d e f g h i j)
    (k0_pay69 a b d e f g h i j) (k0_pay70 a b d e f g h i j) (k0_pay71 a b d e f g h i j)
    (k0_pay72 a b d e f g h i j)

/-- What the kernel stores as its result, from its own eight columns and its partner's. -/
def mergeOf (p q : Vec F S256x8 .f32) : FVec F S256x8 .f32 :=
  k0_pay1 (k0_pay79 p q) (k0_pay80 p q) (k0_pay81 p q) (k0_pay82 p q) (k0_pay83 p q) (k0_pay84 p q)

/-! ## Resources -/

/-- Two copies of the rounds algebra: the pipeline library's own and the exchange's. -/
abbrev Res : Type := UR sig nD τ × UR sig nD τ

local notation "𝕄" => MT nD τ sig Unit (Elt F) ℕ Res ℕ

/-- The pipeline library's copy. -/
abbrev embPipe : Emb (UR sig nD τ) (MT nD τ sig Unit (Elt F) ℕ Res ℕ) := embL
/-- The exchange's copy. -/
abbrev embX : Emb (UR sig nD τ) (MT nD τ sig Unit (Elt F) ℕ Res ℕ) := embR

variable (m : (ℓ : Loc nD τ sig) → Buf (Elt F) ℓ) (ρ : Dev nD → PrngReg)

/-! ## The partner -/

/-- The device with the other coordinate along the first mesh axis: sixteen devices further, cyclically. -/
def mate (c : Dev nD) : Dev nD := ⟨(c.val + 16) % 32, Nat.mod_lt _ (by decide)⟩

theorem mate_mate (c : Dev nD) : mate (mate c) = c := by revert c; decide
theorem mate_eq_iff {c d : Dev nD} : mate c = d ↔ c = mate d :=
  ⟨fun h => by rw [← h, mate_mate], fun h => by rw [h, mate_mate]⟩

/-- Both device numbers the kernel computes are its partner's. -/
theorem dev1_mate : ∀ c : Dev nD, (⟨k0_dev1 c, k0_dev1_lt c⟩ : Dev nD) = mate c :=
  fun c => Fin.ext ((k0_dev1_eq c).trans (by revert c; decide))
theorem dev2_mate : ∀ c : Dev nD, (⟨k0_dev2 c, k0_dev2_lt c⟩ : Dev nD) = mate c :=
  fun c => Fin.ext ((k0_dev2_eq c).trans (by revert c; decide))

/-- Partnership as a permutation of the devices. -/
def matePerm : Dev nD ≃ Dev nD := ⟨mate, mate, mate_mate, mate_mate⟩

/-! ## Buffers and cells -/

abbrev xMem : Memref sig .tc .vmem S256x1024 .f32 := Memref.whole cc0_stg0_0
abbrev outMem : Memref sig .tc .vmem S256x8 .f32 := Memref.whole cc0_stg1_0
abbrev mineMem : Memref sig .tc .vmem S256x8 .f32 := Memref.whole cc0_scratch0
abbrev landMem : Memref sig .tc .vmem S256x8 .f32 := Memref.whole cc0_scratch1

/-- The semaphores by number: 0 the barrier, 1 the send semaphore, 2 the receive semaphore. -/
abbrev barS : Sem sig := (SemArray.scalar (sig.barrier 0 rfl) : Sems sig S_).sem
abbrev sendS : DmaSem sig := (cc0_scratch2 : DmaSems sig S_).sem
abbrev recvS : DmaSem sig := (cc0_scratch3 : DmaSems sig S_).sem
abbrev semOf : Fin 3 → SemLoc sig := fun | 0 => .reg barS | 1 => .dma sendS | 2 => .dma recvS

/-- Cell `k` of device `c`. -/
abbrev cell (c : Dev nD) (k : Fin 3) : GSem nD τ sig := ((c : Thread nD τ), semOf k)

theorem semOf_inj : Function.Injective semOf := by decide
theorem cell_eq_iff {c d : Dev nD} {k l : Fin 3} : cell c k = cell d l ↔ c = d ∧ k = l :=
  ⟨fun h => ⟨Fin.ext (congrArg (fun g : GSem nD τ sig => g.1.1.val) h), semOf_inj (congrArg Prod.snd h)⟩, fun h => by rw [h.1, h.2]⟩

/-- The credit of one transfer. -/
abbrev credit : ℕ := (landMem : Memref sig .tc .vmem S256x8 .f32).view.dmaCredit
theorem credit_pos : 0 < credit := View.dmaCredit_pos _ (by decide)

/-! ## Contents -/

/-- The block of `x` staged on device `c`. -/
def blockAt (c : Dev nD) : (cc0_stg0_0 : Ref sig .tc).ty.Contents (Elt F) :=
  (win0_0.blk (0 : Fin 1)).view.read (Elt F) (m ((c : Thread nD τ).loc main_arg0))

/-- What device `c` keeps of its block. -/
def topAt (c : Dev nD) : (cc0_scratch0 : Ref sig .tc).ty.Contents (Elt F) := topOf (blockAt m c)

/-- The result on device `c`. -/
def resultAt (c : Dev nD) : (cc0_stg1_0 : Ref sig .tc).ty.Contents (Elt F) := mergeOf (topAt m c) (topAt m (mate c))

/-- The landing buffer of `c` holding `f`. -/
def landPts (c : Dev nD) (f : Buf (Elt F) ((landMem : Memref sig .tc .vmem S256x8 .f32).view.loc (c : Thread nD τ))) : sProp 𝕄 :=
  (landMem : Memref sig .tc .vmem S256x8 .f32).view.loc (c : Thread nD τ) ↦[(landMem : Memref sig .tc .vmem S256x8 .f32).view.set]{fullShare} f
/-- The kept buffer of `c` holding `f`, at share `q`. -/
def minePts (c : Dev nD) (q : PosShare TreeShare) (f : Buf (Elt F) ((mineMem : Memref sig .tc .vmem S256x8 .f32).view.loc (c : Thread nD τ))) : sProp 𝕄 :=
  (mineMem : Memref sig .tc .vmem S256x8 .f32).view.loc (c : Thread nD τ) ↦[(mineMem : Memref sig .tc .vmem S256x8 .f32).view.set]{q} f

omit [FloatOps F] in
instance landPts_storable (c : Dev nD) (f) : BI.Storable (upEmb : UEmb _ 𝕄) (landPts (F := F) c f) := by unfold landPts; infer_instance
omit [FloatOps F] in
instance minePts_storable (c : Dev nD) (q) (f) : BI.Storable (upEmb : UEmb _ 𝕄) (minePts (F := F) c q f) := by unfold minePts; infer_instance

omit [FloatOps F] in
theorem landPts_eq (c : Dev nD) (f : Buf (Elt F) ((c : Thread nD τ).loc cc0_scratch1)) :
    landPts c f = (((c : Thread nD τ).loc cc0_scratch1) ↦{fullShare} f : sProp 𝕄) := by unfold landPts; rw [View.set_whole]
omit [FloatOps F] in
theorem minePts_eq (c : Dev nD) (q : PosShare TreeShare) (f : Buf (Elt F) ((c : Thread nD τ).loc cc0_scratch0)) :
    minePts c q f = (((c : Thread nD τ).loc cc0_scratch0) ↦{q} f : sProp 𝕄) := by unfold minePts; rw [View.set_whole]

omit [FloatOps F] in
/-- The kept buffer at the full share is two halves. -/
theorem minePts_halves (c : Dev nD) (f : Buf (Elt F) ((mineMem : Memref sig .tc .vmem S256x8 .f32).view.loc (c : Thread nD τ))) :
    (minePts c fullShare f : sProp 𝕄) ⊣⊢ iprop(minePts c fullShare.left f ∗ minePts c fullShare.right f) := by
  unfold minePts; exact pointsTo_share (PosShare.mem_left_op_right _)

omit [FloatOps F] in
/-- A whole kept buffer transferred over a whole landing buffer leaves its contents there. -/
theorem land_write (c : Dev nD) (fd : Buf (Elt F) ((landMem : Memref sig .tc .vmem S256x8 .f32).view.loc (c : Thread nD τ))) (fs : (cc0_scratch0 : Ref sig .tc).ty.Contents (Elt F)) :
    (landMem : Memref sig .tc .vmem S256x8 .f32).view.write (Elt F) fd ((mineMem : Memref sig .tc .vmem S256x8 .f32).view.read (Elt F) fs) Finset.univ = fs := by
  show (View.whole cc0_scratch1).write (Elt F) fd ((View.whole cc0_scratch0).read (Elt F) fs) Finset.univ = fs
  rw [View.read_whole]; exact View.write_whole_univ _ _ _

/-! ## The schedule -/

/-- What the payment into cell `k` of device `c` hands over. -/
def pay (c : Dev nD) : Fin 3 → sProp 𝕄
  | 0 => iprop((∃ f, landPts (mate c) f) ∗ reached embX (cell (mate c) 2) 0)
  | 1 => minePts c fullShare.left (topAt m c)
  | 2 => landPts c (topAt m (mate c))

instance pay_storable (c : Dev nD) (k : Fin 3) : BI.Storable (upEmb : UEmb _ 𝕄) (pay (F := F) m c k) := by
  fin_cases k <;> dsimp only [pay] <;> infer_instance

/-- The units paid into cell number `k`. -/
def units (k : Fin 3) : ℕ := if k = 0 then 1 else credit
theorem units_pos (k : Fin 3) : 0 < units k := by
  unfold units; split
  · exact Nat.one_pos
  · exact credit_pos

/-- The number of the cell a semaphore is, if it is one of the exchange's. -/
def number (s : SemLoc sig) : Option (Fin 3) :=
  if s = .reg barS then some 0 else if s = .dma sendS then some 1 else if s = .dma recvS then some 2 else none
theorem number_semOf (k : Fin 3) : number (semOf k) = some k := by revert k; decide

/-- One payment into every cell of a device's compute core, at round 0. -/
def sched : Rounds.Schedule (GSem nD τ sig) Unit 𝕄 where
  duties g r := if r = 0 ∧ g.1.2 = .tc ∧ (number g.2).isSome then {()} else ∅
  unitless _ := False
  amount g _ _ := match number g.2 with
    | some k => units k
    | none => 1
  payload g _ _ := match number g.2 with
    | some k => pay m g.1.1 k
    | none => iprop(emp)
  amount_pos g _ _ _ := by
    split
    · exact units_pos _
    · exact Nat.one_pos

instance sched_storable (g : GSem nD τ sig) (r : ℕ) (d : Unit) : BI.Storable (upEmb : UEmb _ 𝕄) ((sched (F := F) m).payload g r d) := by
  dsimp only [sched]
  split <;> infer_instance

section Sched
variable (c : Dev nD) (k : Fin 3)

theorem duties_now : (sched (F := F) m).duties (cell c k) 0 = {()} := by
  dsimp only [sched]; exact if_pos ⟨rfl, rfl, by rw [number_semOf]; rfl⟩
theorem mem_duties : () ∈ (sched (F := F) m).duties (cell c k) 0 := by rw [duties_now]; exact Finset.mem_singleton_self _
theorem duties_after (g : GSem nD τ sig) : ∀ r, 1 ≤ r → (sched (F := F) m).duties g r = ∅ :=
  fun r hr => by dsimp only [sched]; exact if_neg fun h => by omega
theorem amount_now (u : Unit) : (sched (F := F) m).amount (cell c k) 0 u = units k := by
  dsimp only [sched]; rw [number_semOf]
theorem expect_now : (sched (F := F) m).expect (cell c k) 0 = units k := by
  unfold Schedule.expect Schedule.amountOf; rw [duties_now, Finset.sum_singleton, amount_now]
theorem payload_now (u : Unit) : (sched (F := F) m).payload (cell c k) 0 u = pay m c k := by
  dsimp only [sched]; rw [number_semOf]
theorem rest_now : bigSep ((sched (F := F) m).duties (cell c k) 0 \ ∅) (fun u => (sched (F := F) m).payload (cell c k) 0 u) = pay m c k := by
  rw [Finset.sdiff_empty, duties_now, bigSep_singleton, payload_now]

end Sched

/-! ## What a device owes, and in what order it may wait -/

/-- A device owes its partner's receive cell a transfer and its partner's barrier cell a unit. -/
def owedAt (c : Dev nD) : CellTallies nD τ sig Unit := tallyAt (cell (mate c) 2) () credit + tallyAt (cell (mate c) 0) () 1

def ixs (g : GSem nD τ sig) : Finset Unit := if g.1.2 = .tc then {()} else ∅
/-- Barrier cells at level 1, receive cells at level 2, everything else at level 0. -/
def level (g : GSem nD τ sig) (_ : Unit) : ℕ := if g.2 = .reg barS then 1 else if g.2 = .dma recvS then 2 else 0
theorem ixs_of_ne (g : GSem nD τ sig) (h : g.1.2 ≠ .tc) : ixs g = ∅ := if_neg h
theorem mem_ixs (c : Dev nD) (s : SemLoc sig) (u : Unit) : u ∈ ixs ((c : Thread nD τ), s) := by
  unfold ixs; rw [if_pos rfl]; exact Finset.mem_singleton_self _
theorem level_bar (c : Dev nD) : level (cell c 0) () = 1 := if_pos rfl
theorem level_recv (c : Dev nD) : level (cell c 2) () = 2 := by
  unfold level; rw [if_neg (fun h => by cases h), if_pos rfl]

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owedAt_pos {c : Dev nD} {g : GSem nD τ sig} {u : Unit} (h : 0 < owedAt c g u) : g = cell (mate c) 2 ∨ g = cell (mate c) 0 := by
  unfold owedAt at h
  rw [Pi.add_apply, Finsupp.add_apply] at h
  rcases Nat.add_pos_iff_pos_or_pos.mp h with h | h
  · exact Or.inl (tally_pos h)
  · exact Or.inr (tally_pos h)

omit [FloatOps F] in
/-- Waiting on a staging semaphore is below everything a device owes. -/
theorem wait_stage (c : Dev nD) (q : DmaSem sig) (hq : q ≠ recvS) (O : CellTallies nD τ sig Unit) (hO : O = owedAt c ∨ O = 0) :
    (levAts ixs level : sProp 𝕄) ⊢ MayWait (c : Thread nD τ) (.dma q) () O := by
  rcases hO with rfl | rfl
  · refine MayOwe.of_cut (L := ixs) (lev := level) 0 (fun p hp => by rw [Finset.mem_singleton.mp hp]; exact mem_ixs _ _ _)
      (fun g u hg => by rcases owedAt_pos hg with rfl | rfl <;> exact mem_ixs _ _ _)
      (fun p hp => by
        rw [Finset.mem_singleton.mp hp]; dsimp only [level]
        rw [if_neg (fun h => by cases h), if_neg (fun h => hq (by injection h))])
      (fun g u hg => by
        rcases owedAt_pos hg with rfl | rfl
        · rw [level_recv]; decide
        · rw [level_bar]; decide)
  · rw [MayWait_zero]; iintro -; iempintro

omit [FloatOps F] in
/-- Waiting on the barrier is below the transfer a device still owes. -/
theorem wait_bar (c : Dev nD) : (levAts ixs level : sProp 𝕄) ⊢ MayWait (c : Thread nD τ) (.reg barS) () (tallyAt (cell (mate c) 2) () credit) :=
  MayOwe.of_cut (L := ixs) (lev := level) 1 (fun p hp => by rw [Finset.mem_singleton.mp hp]; exact mem_ixs _ _ _)
    (fun g u hg => by rw [tally_pos hg]; exact mem_ixs _ _ _)
    (fun p hp => by rw [Finset.mem_singleton.mp hp]; exact (level_bar c).le)
    (fun g u hg => by rw [tally_pos hg, level_recv]; decide)

end Cert.KernelIdeal.Topk

end
-- ==== Proof.KernelIdeal.Body.lean ====
/-
One device's kernel body under the exchange's schedule: from what a device starts with to what it ends with, one
rule per effect in program order, and the pipeline library's body obligation from it.
-/
module

public import proofs.«01_k».proof.Proof.KernelIdeal.Protocol

@[expose] public section

set_option maxRecDepth 16384

noncomputable section

namespace Cert.KernelIdeal.Topk

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ) (ρ : Dev nD → PrngReg)

/-! ## What a device starts and ends with -/

/-- The invariants device `c` opens, under the names `K`: its own cells' and its partner's barrier and receive cells'. -/
def invsOf (K : Dev nD × Fin 3 → ℕ) (c : Dev nD) : sProp 𝕄 :=
  iprop(cellInv embX (sched m) (K (c, 0)) (cell c 0) ∗ cellInv embX (sched m) (K (c, 1)) (cell c 1) ∗ cellInv embX (sched m) (K (c, 2)) (cell c 2)
    ∗ cellInv embX (sched m) (K (mate c, 0)) (cell (mate c) 0) ∗ cellInv embX (sched m) (K (mate c, 2)) (cell (mate c) 2))

instance invsOf_persistent (K : Dev nD × Fin 3 → ℕ) (c : Dev nD) : BI.Persistent (invsOf m K c) := by unfold invsOf; infer_instance

/-- The tokens of the three payments device `c` makes. -/
def tokensOf (c : Dev nD) : sProp 𝕄 :=
  iprop(dutyTok embX (cell (mate c) 0) 0 () ∗ dutyTok embX (cell (mate c) 2) 0 () ∗ dutyTok embX (cell c 1) 0 ())

/-- The exchange's ghost state at device `c`. -/
def ghostOf (K : Dev nD × Fin 3 → ℕ) (c : Dev nD) : sProp 𝕄 :=
  iprop(invsOf m K c
    ∗ (atPos embX (cell c 0) 0 ∅ 0 ∗ atPos embX (cell c 1) 0 ∅ 0 ∗ atPos embX (cell c 2) 0 ∅ 0)
    ∗ reached embX (cell (mate c) 0) 0 ∗ reached embX (cell (mate c) 2) 0 ∗ reached embX (cell c 1) 0 ∗ reached embX (cell c 2) 0
    ∗ tokensOf c)

/-- What device `c` starts from: the ghost state, the credit of its barrier and receive cells, the levels. -/
def startOf (c : Dev nD) : sProp 𝕄 :=
  iprop((∃ K, ghostOf m K c) ∗ cred (tallyAt (cell c 0) () 1) ∗ cred (tallyAt (cell c 2) () credit) ∗ levAts ixs level)

/-- Before the body: that, and both scratch buffers at some contents. -/
def before₀ (c : Dev nD) : sProp 𝕄 := iprop(startOf m c ∗ (∃ f, minePts c fullShare f) ∗ ∃ f, landPts c f)
/-- After the body: both scratch buffers filled, and the three semaphores at zero. -/
def after₀ (c : Dev nD) : sProp 𝕄 :=
  iprop((minePts c fullShare (topAt m c) ∗ landPts c (topAt m (mate c))) ∗ semVal (cell c 0) 0 ∗ semVal (cell c 1) 0 ∗ semVal (cell c 2) 0)

/-- The proof data of the one pipeline: the arrays as launched, the staged block and the result, the exchange's state. -/
def data (_ : Fin 1) (c : Dev nD) : Dat τ (Elt F) Unit ℕ Res ℕ cfg0 c where
  A w := m ((cfg0.win w).arr.view.loc (c : Thread nD τ))
  after w _ := match w with
    | ⟨0, _⟩ => blockAt m c
    | ⟨1, _⟩ => resultAt m c
  Φ t := match t with
    | ⟨0, _⟩ => before₀ m c
    | ⟨_ + 1, _⟩ => after₀ m c
  q _ := fullShare
  owed t := match t with
    | ⟨0, _⟩ => owedAt c
    | ⟨_ + 1, _⟩ => 0

abbrev noVar : Variants := Variants.none

/-! ## Reads and writes of whole buffers -/

abbrev rectX : Rect S256x1024 := Rect.unit (s := S256x1024) ![0, 0] S256x1024.size inb_S256x1024_S256x1024_0_0
abbrev rect8 : Rect S256x8 := Rect.unit (s := S256x8) ![0, 0] S256x8.size inb_S256x8_S256x8_0_0

omit [FloatOps F] in
theorem origin_eq : (![0, 0] : Fin 2 → Nat) = fun _ => 0 := funext fun a => by fin_cases a <;> rfl
omit [FloatOps F] in
theorem read_x (f : (cc0_stg0_0 : Ref sig .tc).ty.Contents (Elt F)) : (xMem : Memref sig .tc .vmem S256x1024 .f32).view.readAt (Elt F) rectX.toLoadRect f = f :=
  Memref.readAt_unit_zero (Elt F) cc0_stg0_0 origin_eq _ f
omit [FloatOps F] in
theorem read_mine (f : (cc0_scratch0 : Ref sig .tc).ty.Contents (Elt F)) : (mineMem : Memref sig .tc .vmem S256x8 .f32).view.readAt (Elt F) rect8.toLoadRect f = f :=
  Memref.readAt_unit_zero (Elt F) cc0_scratch0 origin_eq _ f
omit [FloatOps F] in
theorem read_land (f : (cc0_scratch1 : Ref sig .tc).ty.Contents (Elt F)) : (landMem : Memref sig .tc .vmem S256x8 .f32).view.readAt (Elt F) rect8.toLoadRect f = f :=
  Memref.readAt_unit_zero (Elt F) cc0_scratch1 origin_eq _ f
omit [FloatOps F] in
theorem write_mine (f w : (cc0_scratch0 : Ref sig .tc).ty.Contents (Elt F)) :
    ((mineMem : Memref sig .tc .vmem S256x8 .f32).access rect8 : View sig .tc _ _ _).write (Elt F) f w Finset.univ = w :=
  Memref.write_access_unit_zero_univ (Elt F) cc0_scratch0 origin_eq _ f w
omit [FloatOps F] in
theorem write_out (f w : (cc0_stg1_0 : Ref sig .tc).ty.Contents (Elt F)) :
    ((outMem : Memref sig .tc .vmem S256x8 .f32).access rect8 : View sig .tc _ _ _).write (Elt F) f w Finset.univ = w :=
  Memref.write_access_unit_zero_univ (Elt F) cc0_stg1_0 origin_eq _ f w

omit [FloatOps F] in
theorem owns_staged (c : Dev nD) (b : Ref sig .tc) (X : b.ty.Contents (Elt F)) :
    (owns (Ix := Unit) (Name := ℕ) (U := Res) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The vector the body stores in its kept buffer, as the payloads spell it. -/
theorem kept_eq (x : Vec F S256x1024 .f32) :
    k0_pay73 (k0_pay48 (k0_pay15 x) (k0_pay25 x))
      (k0_pay56 (k0_pay15 x) (k0_pay19 x) (k0_pay20 x) (k0_pay25 x) (k0_pay26 x) (k0_pay27 x))
      (k0_pay63 (k0_pay15 x) (k0_pay19 x) (k0_pay20 x) (k0_pay25 x) (k0_pay26 x) (k0_pay27 x))
      (k0_pay66 (k0_pay15 x) (k0_pay18 x) (k0_pay19 x) (k0_pay20 x) (k0_pay22 x) (k0_pay24 x) (k0_pay25 x) (k0_pay26 x) (k0_pay27 x))
      (k0_pay67 (k0_pay15 x) (k0_pay18 x) (k0_pay19 x) (k0_pay20 x) (k0_pay22 x) (k0_pay24 x) (k0_pay25 x) (k0_pay26 x) (k0_pay27 x))
      (k0_pay68 (k0_pay15 x) (k0_pay18 x) (k0_pay19 x) (k0_pay20 x) (k0_pay22 x) (k0_pay24 x) (k0_pay25 x) (k0_pay26 x) (k0_pay27 x))
      (k0_pay69 (k0_pay15 x) (k0_pay18 x) (k0_pay19 x) (k0_pay20 x) (k0_pay22 x) (k0_pay24 x) (k0_pay25 x) (k0_pay26 x) (k0_pay27 x))
      (k0_pay70 (k0_pay15 x) (k0_pay18 x) (k0_pay19 x) (k0_pay20 x) (k0_pay22 x) (k0_pay24 x) (k0_pay25 x) (k0_pay26 x) (k0_pay27 x))
      (k0_pay71 (k0_pay15 x) (k0_pay18 x) (k0_pay19 x) (k0_pay20 x) (k0_pay22 x) (k0_pay24 x) (k0_pay25 x) (k0_pay26 x) (k0_pay27 x))
      (k0_pay72 (k0_pay15 x) (k0_pay18 x) (k0_pay19 x) (k0_pay20 x) (k0_pay22 x) (k0_pay24 x) (k0_pay25 x) (k0_pay26 x) (k0_pay27 x))
    = topOf x := rfl

/-! ## The transfer -/

section Body

variable (K : Dev nD × Fin 3 → ℕ)

/-- The transfer to the partner, its source held at the left half share. -/
theorem send_mate (c n : Dev nD) (hn : n = mate c) {hsc : (landMem : Memref sig (Dev.tc n : Thread nD τ).2.kind .vmem S256x8 .f32).view.ref.isScScratch = false}
    {hsrc : (mineMem : Memref sig .tc .vmem S256x8 .f32).view.WordExact} {hdst : (landMem : Memref sig .tc .vmem S256x8 .f32).view.WordExact}
    {hsem : DmaTarget.Typed .vmem (.dma recvS) (.remote (Dev.tc n : Thread nD τ) (landMem : Memref sig .tc .vmem S256x8 .f32) (.dma sendS) hsc)}
    {α : Type} {Q : α → sProp 𝕄} {k : PUnit → Prog (TpuEff nD τ sig (Elt F) Λ₀ .tc) α}
    (fn : Buf (Elt F) ((landMem : Memref sig .tc .vmem S256x8 .f32).view.loc (mate c : Thread nD τ))) (W : Waits sig Unit) :
    iprop(cellInv embX (sched m) (K (c, 1)) (cell c 1) ∗ cellInv embX (sched m) (K (mate c, 2)) (cell (mate c) 2)
        ∗ minePts c fullShare.left (topAt m c) ∗ landPts (mate c) fn ∗ owes (c : Thread nD τ) (tallyAt (cell (mate c) 2) () credit) W
        ∗ dutyTok embX (cell c 1) 0 () ∗ reached embX (cell c 1) 0 ∗ dutyTok embX (cell (mate c) 2) 0 () ∗ reached embX (cell (mate c) 2) 0)
      ⊢ iprop(((cred (tallyAt (cell c 1) () credit) ∗ owes (c : Thread nD τ) 0 W) -∗ wp frame (wpE (defs₀ (F := F)) noVar (c : Thread nD τ) none) Set.univ (k ⟨⟩) Q)
          -∗ wp frame (wpE (defs₀ (F := F)) noVar (c : Thread nD τ) none) Set.univ
              (.op (.enqueueDma mineMem (.remote (Dev.tc n : Thread nD τ) landMem (.dma sendS) hsc) (.dma recvS) hsrc hdst hsem) k) Q) := by
  subst hn
  unfold minePts landPts
  exact Rounds.wp_send_pointsTo noVar embX (sched m) (c : Thread nD τ) none (κ₁ := K (c, 1)) (κ₂ := K (mate c, 2))
    (r₁ := 0) (r₂ := 0) (d₁ := ()) (d₂ := ()) (fd := fn) (mem_duties m c 1) (mem_duties m (mate c) 2)
    () () credit rfl (amount_now m c 1 ()) (amount_now m (mate c) 2 ()) 0 (by rw [zero_add]) (W := W)
    (by rw [payload_now m c 1]; exact BI.Entails.refl _)
    (by rw [payload_now m (mate c) 2]; dsimp only [pay]; unfold landPts; rw [land_write, mate_mate])

/-! ## The body -/

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def preOf (c : Dev nD) : sProp 𝕄 :=
  iprop((ghostOf m K c ∗ cred (tallyAt (cell c 0) () 1) ∗ cred (tallyAt (cell c 2) () credit) ∗ levAts ixs level)
    ∗ (∃ f, minePts c fullShare f) ∗ (∃ f, landPts c f)
    ∗ (data m 0 c).owesAt () t0_0.castSucc
    ∗ (∃ d, staged c cc0_stg0_0 ((data m 0 c).before (0 : Fin 2) t0_0 d))
    ∗ (∃ d, staged c cc0_stg1_0 ((data m 0 c).before (1 : Fin 2) t0_0 d)))
def postOf (c : Dev nD) : sProp 𝕄 :=
  iprop(after₀ m c ∗ (data m 0 c).owesAt () t0_0.succ ∗ staged c cc0_stg0_0 (blockAt m c) ∗ staged c cc0_stg1_0 (resultAt m c))

theorem staged_x (c : Dev nD) (d) : (data m 0 c).before (0 : Fin 2) t0_0 d = blockAt m c := by
  unfold Dat.before; rw [if_pos (fetch0_0 t0_0)]; rfl

set_option maxHeartbeats 1600000 in
/-- The body from `preOf` to `postOf`. -/
theorem body_run (c : Dev nD) (Kt : PUnit → sProp 𝕄) :
    iprop(preOf m K c ∗ (postOf m c -∗ Kt ⟨⟩))
      ⊢ wp frame (wpE (defs₀ (F := F)) noVar c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold preOf ghostOf invsOf tokensOf
  iintro ⟨⟨⟨⟨⟨#HIbar, #HIsnd, #HIrcv, #HIbarP, #HIrcvP⟩, ⟨HatB, HatS, HatV⟩, #HrBP, #HrVP, #HrS, #HrV, HtBP, HtVP, HtS⟩, HcB, HcV, #Hlev⟩,
    ⟨%fm, Hmine⟩, ⟨%fl, Hland⟩, Ho, ⟨%d0, %g0, %hg0, Hx⟩, ⟨%d1, %g1, %hg1, Hout⟩⟩, Hk⟩
  rw [staged_x] at hg0
  subst hg0
  unfold Dat.owesAt Pipeline.owesWithin
  icases Ho with ⟨%W, %hW, HO⟩
  rw [show (data m 0 c).owed t0_0.castSucc = owedAt c from rfl]
  simp only [dev1_mate c]
  -- the signal to the partner's barrier, with the landing buffer
  iapply (Rounds.wp_signal noVar embX (sched m) (c : Thread nD τ) none (dst := (mate c : Thread nD τ)) (κ := K (mate c, 0))
      (mem_duties m (mate c) 0) ((amount_now m (mate c) 0 ()).trans (by decide)) () (tallyAt (cell (mate c) 2) () credit) rfl)
    $$ [HO HtBP Hland]
  · isplitr; · iexact HIbarP
    isplitl [HO]; · iexact HO
    isplitl [HtBP]; · iexact HtBP
    isplitl [Hland]
    · rw [payload_now m (mate c) 0]; dsimp only [pay]; rw [mate_mate]
      isplitl [Hland]; · iexists fl; iexact Hland
      iexact HrV
    · iexact HrBP
  iintro HO
  -- its block, its eight columns
  iapply (wp_load noVar (c : Thread nD τ) none Set.univ (m := xMem) (Finset.subset_univ _)) $$ Hx; iintro Hx
  rw [read_x]
  ihave Hmine := (Entails.of_eq (minePts_eq c fullShare fm)) $$ Hmine
  iapply (wp_load noVar (c : Thread nD τ) none Set.univ (m := mineMem) (Finset.subset_univ _)) $$ Hmine; iintro Hmine
  iapply (wp_store noVar (c : Thread nD τ) none Set.univ (m := mineMem) (r := rect8) (Mk := Finset.univ) (Finset.subset_univ _)) $$ Hmine; iintro Hmine
  rw [write_mine, kept_eq, show topOf (blockAt m c) = topAt m c from rfl]
  ihave Hmine := (Entails.of_eq (minePts_eq c fullShare (topAt m c)).symm) $$ Hmine
  ihave Hh := (minePts_halves c (topAt m c)).1 $$ Hmine
  icases Hh with ⟨HmL, HmR⟩
  -- the wait on its barrier: the partner's landing buffer
  iapply (Rounds.wp_wait_rest_token noVar embX (sched m) (c : Thread nD τ) none (κ := K (c, 0))
      (wpE_semWait_eq noVar (c : Thread nD τ) none Set.univ) (Set.mem_univ _) () (O := tallyAt (cell (mate c) 2) () credit) (W := W) (R := 0) (m := 0) (T := ∅)
      (by rw [expect_now m c 0]; decide)) $$ [HcB HO HatB]
  · isplitr; · iexact HIbar
    isplitl [HcB]; · iexact HcB
    isplitl [HO]; · iexact HO
    isplitr; · iapply (wait_bar c); iexact Hlev
    iexact HatB
  iintro ⟨HO, HatB, -, Hpay⟩
  ihave Hp := (Entails.of_eq (rest_now m c 0)) $$ Hpay
  dsimp only [pay]
  icases Hp with ⟨⟨%fn, HlandP⟩, #HrVP'⟩
  -- the transfer
  iapply (send_mate m K c _ (dev2_mate c) fn (insert (SemLoc.reg barS, ()) W)) $$ [HmL HlandP HO HtS HtVP]
  · isplitr; · iexact HIsnd
    isplitr; · iexact HIrcvP
    isplitl [HmL]; · iexact HmL
    isplitl [HlandP]; · iexact HlandP
    isplitl [HO]; · iexact HO
    isplitl [HtS]; · iexact HtS
    isplitr; · iexact HrS
    isplitl [HtVP]; · iexact HtVP
    iexact HrVP
  iintro ⟨HcS, HO⟩
  -- the wait on its receive cell: its landing buffer filled
  iapply (Rounds.wp_wait_rest_token noVar embX (sched m) (c : Thread nD τ) none (κ := K (c, 2))
      (wpE_waitDma2_eq noVar (c : Thread nD τ) none Set.univ) (Set.mem_univ _) () (O := 0)
      (W := insert (SemLoc.reg barS, ()) W) (R := 0) (m := 0) (T := ∅)
      (by rw [Nat.zero_add, expect_now m c 2]; rfl)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hland := (Entails.of_eq (rest_now m c 2)) $$ Hpay
  dsimp only [pay]
  -- both loads and the result's store; the first reads the buffer the transfer may still be reading
  ihave HmR := (Entails.of_eq (minePts_eq c fullShare.right (topAt m c))) $$ HmR
  iapply (wp_load noVar (c : Thread nD τ) none Set.univ (m := mineMem) (Finset.subset_univ _)) $$ HmR; iintro HmR
  rw [read_mine]
  ihave Hland := (Entails.of_eq (landPts_eq c (topAt m (mate c)))) $$ Hland
  iapply (wp_load noVar (c : Thread nD τ) none Set.univ (m := landMem) (Finset.subset_univ _)) $$ Hland; iintro Hland
  rw [read_land]
  iapply (wp_load noVar (c : Thread nD τ) none Set.univ (m := outMem) (Finset.subset_univ _)) $$ Hout; iintro Hout
  iapply (wp_store noVar (c : Thread nD τ) none Set.univ (m := outMem) (r := rect8) (Mk := Finset.univ) (Finset.subset_univ _)) $$ Hout; iintro Hout
  rw [write_out]
  -- the wait on its send cell: the other half back
  iapply (Rounds.wp_wait_rest_token noVar embX (sched m) (c : Thread nD τ) none (κ := K (c, 1))
      (wpE_waitDma2_eq noVar (c : Thread nD τ) none Set.univ) (Set.mem_univ _) () (O := 0)
      (W := insert (SemLoc.dma recvS, ()) (insert (SemLoc.reg barS, ()) W)) (R := 0) (m := 0) (T := ∅)
      (by rw [Nat.zero_add, expect_now m c 1]; rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HmL := (Entails.of_eq (rest_now m c 1)) $$ Hpay
  dsimp only [pay]
  ihave HmR := (Entails.of_eq (minePts_eq c fullShare.right (topAt m c)).symm) $$ HmR
  ihave Hmine := (minePts_halves c (topAt m c)).2 $$ [HmL HmR]
  · isplitl [HmL] <;> iassumption
  ihave Hland := (Entails.of_eq (landPts_eq c (topAt m (mate c))).symm) $$ Hland
  -- the three cells close
  imod (Rounds.cell_close embX (sched m) (Set.mem_univ (K (c, 0))) (fun h => h) (R := 0 + 1) (duties_after m (cell c 0))) $$ [HatB] with HzB
  · isplitr; · iexact HIbar
    iexact HatB
  imod (Rounds.cell_close embX (sched m) (Set.mem_univ (K (c, 1))) (fun h => h) (R := 0 + 1) (duties_after m (cell c 1))) $$ [HatS] with HzS
  · isplitr; · iexact HIsnd
    iexact HatS
  imod (Rounds.cell_close embX (sched m) (Set.mem_univ (K (c, 2))) (fun h => h) (R := 0 + 1) (duties_after m (cell c 2))) $$ [HatV] with HzV
  · isplitr; · iexact HIrcv
    iexact HatV
  rw [wp_ret]; imodintro
  iapply Hk
  unfold postOf after₀ Dat.owesAt Pipeline.owesWithin
  rw [show (data m 0 c).owed t0_0.succ = 0 from rfl]
  isplitl [Hmine Hland HzB HzS HzV]
  · isplitl [Hmine Hland]
    · isplitl [Hmine] <;> iassumption
    isplitl [HzB]; · iexact HzB
    isplitl [HzS] <;> iassumption
  isplitl [HO]
  · iexists (insert (SemLoc.dma sendS, ()) (insert (SemLoc.dma recvS, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Body

/-- The library's body obligation on device `c`. -/
theorem body_ok (c : Dev nD) : BodyObligation (data (F := F) m 0 c) (defs₀ (F := F)) noVar () Set.univ := fun t => by
  rw [fin_N0 t]
  rw [bigSep_W0, bigSep_W0]
  simp only [owns_staged]
  show iprop(before₀ m c ∗ (data m 0 c).owesAt () t0_0.castSucc
      ∗ (∃ d, staged c cc0_stg0_0 ((data m 0 c).before (0 : Fin 2) t0_0 d))
      ∗ (∃ d, staged c cc0_stg1_0 ((data m 0 c).before (1 : Fin 2) t0_0 d))) ⊢ wp frame (wpE (defs₀ (F := F)) noVar c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => postOf m c)
  unfold before₀ startOf
  iintro ⟨⟨⟨⟨%K, Hg⟩, Hrest⟩, Hm, Hl⟩, Ho, Hx, Hout⟩
  iapply (body_run m K c fun _ => postOf m c)
  unfold preOf
  isplitr []
  · isplitl [Hg Hrest]
    · isplitl [Hg]; · iexact Hg
      iexact Hrest
    isplitl [Hm]; · iexact Hm
    isplitl [Hl]; · iexact Hl
    isplitl [Ho]; · iexact Ho
    isplitl [Hx] <;> iassumption
  · iintro H; iexact H

end Cert.KernelIdeal.Topk

end
-- ==== Proof.KernelIdeal.Run.lean ====
/-
The launch of the exchange on all devices, and the run of the whole program: it terminates, the argument arrays are
unchanged, every semaphore is at zero, and device `c` holds `resultAt m c`.
-/
module

public import proofs.«01_k».proof.Proof.KernelIdeal.Body
public import Idealize.ShloMosaic.Lib.Pipeline.CollectiveSegs

@[expose] public section

set_option maxRecDepth 16384

noncomputable section

namespace Cert.KernelIdeal.Topk

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ) (ρ : Dev nD → PrngReg)

/-! ## The ghost state minted at launch -/

/-- The send and receive semaphores are the kernel's own; the barrier is the runtime's. -/
abbrev ownSem : Fin 2 → SemLoc sig := fun | 0 => .dma sendS | 1 => .dma recvS

theorem ownSem_ok : Pipeline.OwnSemFacts cfg0.spec ownSem := by decide

theorem cellAt_inj : Function.Injective fun ck : Dev nD × Fin 3 => cell ck.1 ck.2 :=
  fun _ _ h => Prod.ext (cell_eq_iff.mp h).1 (cell_eq_iff.mp h).2
/-- All the cells, and the token of each one's payment. -/
def allCells : Finset (GSem nD τ sig) := Finset.univ.map ⟨fun ck : Dev nD × Fin 3 => cell ck.1 ck.2, cellAt_inj⟩
def allToks : Finset (GSem nD τ sig × ℕ × Unit) :=
  Finset.univ.map ⟨fun ck : Dev nD × Fin 3 => (cell ck.1 ck.2, 0, ()), fun _ _ h => cellAt_inj (congrArg Prod.fst h)⟩

def launchElem : Res := (initOf (Pipeline.cells cfgs cellOf_inj) (Pipeline.launchToks cfgs cellOf_inj), initOf allCells allToks)

/-- What the launch deals device `c`: for each of its cells the round state, the position with its mark, and the token. -/
def dealt (c : Dev nD) : sProp 𝕄 :=
  iprop((bigSep Finset.univ fun k : Fin 3 => roundState embX (sched m) (cell c k) 0)
    ∗ (bigSep Finset.univ fun k : Fin 3 => iprop(atPos embX (cell c k) 0 ∅ 0 ∗ reached embX (cell c k) 0))
    ∗ bigSep Finset.univ fun k : Fin 3 => dutyTok embX (cell c k) 0 ())
/-- What the global step makes of it. -/
def ready (c : Dev nD) : sProp 𝕄 := iprop(∃ K, ghostOf m K c)

omit [FloatOps F] in
theorem three (Φ : Fin 3 → sProp 𝕄) : bigSep Finset.univ Φ = iprop(Φ 0 ∗ Φ 1 ∗ Φ 2) := bigSep_univ_eq_bigSepL [0, 1, 2] (by decide) (by decide) Φ

theorem deal : BI.own (embX (initOf allCells allToks)) ⊢ (|==> bigSep Finset.univ (dealt m) : sProp 𝕄) := by
  have hC (Φ : GSem nD τ sig → sProp 𝕄) : bigSep allCells Φ = bigSep Finset.univ fun c : Dev nD => bigSep Finset.univ fun k : Fin 3 => Φ (cell c k) := by
    unfold allCells; rw [bigSep_map, bigSep_univ_prod]; rfl
  have hT : bigSep allToks (fun x => (dutyTok embX x.1 x.2.1 x.2.2 : sProp 𝕄))
      = bigSep Finset.univ fun c : Dev nD => bigSep Finset.univ fun k : Fin 3 => dutyTok embX (cell c k) 0 () := by
    unfold allToks; rw [bigSep_map, bigSep_univ_prod]; rfl
  iintro HX
  imod (Rounds.fund embX (sched m) allCells allToks) $$ HX with ⟨Hst, Hr, Hat, Htok⟩
  imodintro
  ihave Hst := (Entails.of_eq (hC fun g => roundState embX (sched m) g 0)) $$ Hst
  ihave Hat := (Entails.of_eq (hC fun g => atPos embX g 0 ∅ 0)) $$ Hat
  ihave Hr := (Entails.of_eq (hC fun g => reached embX g 0)) $$ Hr
  ihave Htok := (Entails.of_eq hT) $$ Htok
  unfold dealt; simp only [bigSep_sep']
  isplitl [Hst]; · iexact Hst
  isplitl [Hat Hr]
  · isplitl [Hat] <;> iassumption
  iexact Htok

omit [FloatOps F] in
theorem ownSems_eq (c : Dev nD) : (Pipeline.ownSems0 (Ix := Unit) (Name := ℕ) (U := Res) (Lvl := ℕ) (Val := Elt F) (τ := τ) ownSem c : sProp 𝕄)
    = iprop(semVal (cell c 1) 0 ∗ semVal (cell c 2) 0) := by
  rw [Pipeline.ownSems0_eq_of_list c ownSem [0, 1] (by decide) (by decide)]; rfl
omit [FloatOps F] in
theorem runtimeSems_eq (c : Dev nD) : (unscopedSems0 c : sProp 𝕄) = semVal (cell c 0) 0 := by
  unfold unscopedSems0; rw [bigSep_eq_bigSepL_of_eq [SemLoc.reg barS] (by decide) (by decide)]; rfl

omit [FloatOps F] in
theorem sems_three (c : Dev nD) :
    iprop(Pipeline.ownSems0 (Ix := Unit) (Name := ℕ) (U := Res) (Lvl := ℕ) (Val := Elt F) (τ := τ) ownSem c ∗ unscopedSems0 c)
      ⊢ (bigSep Finset.univ fun k : Fin 3 => semVal (cell c k) 0 : sProp 𝕄) := by
  rw [ownSems_eq, runtimeSems_eq, three]
  iintro ⟨⟨HS, HV⟩, HB⟩
  isplitl [HB]; · iexact HB
  isplitl [HS] <;> iassumption

/-- One device's cells get their invariants. -/
theorem alloc_one (c : Dev nD) :
    iprop(Pipeline.ownSems0 (Ix := Unit) (Name := ℕ) (U := Res) (Lvl := ℕ) (Val := Elt F) (τ := τ) ownSem c ∗ unscopedSems0 c ∗ dealt m c)
      ⊢ |={Set.univ}=> iprop((bigSep Finset.univ fun k => iprop(∃ κ : ℕ, cellInv embX (sched m) κ (cell c k)))
          ∗ (bigSep Finset.univ fun k : Fin 3 => iprop(atPos embX (cell c k) 0 ∅ 0 ∗ reached embX (cell c k) 0))
          ∗ bigSep Finset.univ fun k : Fin 3 => dutyTok embX (cell c k) 0 ()) := by
  unfold dealt
  iintro ⟨Hos, Hus, Hst, Hat, Htok⟩
  ihave Hv := (sems_three (F := F) c) $$ [Hos Hus]
  · isplitl [Hos] <;> iassumption
  imod (show iprop((bigSep Finset.univ fun k : Fin 3 => semVal (cell c k) 0) ∗ bigSep Finset.univ fun k : Fin 3 => roundState embX (sched m) (cell c k) 0)
      ⊢ (|={Set.univ}=> bigSep Finset.univ fun k => iprop(∃ κ : ℕ, cellInv embX (sched m) κ (cell c k)) : sProp 𝕄) from by
        rw [← bigSep_sep']
        exact (bigSep_mono fun k _ => (Rounds.body_intro embX (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to the devices that pay -/

/-- What every device may use: all the invariants, all the marks. -/
def shared (K : Dev nD × Fin 3 → ℕ) : sProp 𝕄 :=
  iprop((bigSep Finset.univ fun ck : Dev nD × Fin 3 => cellInv embX (sched m) (K ck) (cell ck.1 ck.2))
    ∗ bigSep Finset.univ fun ck : Dev nD × Fin 3 => reached embX (cell ck.1 ck.2) 0)
instance shared_persistent (K : Dev nD × Fin 3 → ℕ) : BI.Persistent (shared m K) := by unfold shared; infer_instance

theorem inv_of (K : Dev nD × Fin 3 → ℕ) (c : Dev nD) (k : Fin 3) :
    (bigSep Finset.univ fun ck : Dev nD × Fin 3 => (cellInv embX (sched m) (K ck) (cell ck.1 ck.2) : sProp 𝕄)) ⊢ cellInv embX (sched m) (K (c, k)) (cell c k) :=
  bigSep_elim (Finset.mem_univ (c, k))
omit [FloatOps F] in
theorem mark_of (c : Dev nD) (k : Fin 3) :
    (bigSep Finset.univ fun ck : Dev nD × Fin 3 => (reached embX (cell ck.1 ck.2) 0 : sProp 𝕄)) ⊢ reached embX (cell c k) 0 :=
  bigSep_elim (s := Finset.univ) (Φ := fun ck : Dev nD × Fin 3 => (reached embX (cell ck.1 ck.2) 0 : sProp 𝕄)) (Finset.mem_univ (c, k))

/-- What stays with device `c`. -/
def kept (c : Dev nD) : sProp 𝕄 := iprop((atPos embX (cell c 0) 0 ∅ 0 ∗ atPos embX (cell c 1) 0 ∅ 0 ∗ atPos embX (cell c 2) 0 ∅ 0) ∗ tokensOf c)

theorem ready_intro (K : Dev nD × Fin 3 → ℕ) (c : Dev nD) : iprop(shared m K ∗ kept c) ⊢ ready m c := by
  unfold shared kept ready ghostOf invsOf
  iintro ⟨⟨#HI, #HR⟩, Ha, Ht⟩
  iexists K
  isplitr
  · isplitr; · iapply (inv_of m K c 0); iexact HI
    isplitr; · iapply (inv_of m K c 1); iexact HI
    isplitr; · iapply (inv_of m K c 2); iexact HI
    isplitr; · iapply (inv_of m K (mate c) 0); iexact HI
    iapply (inv_of m K (mate c) 2); iexact HI
  isplitl [Ha]; · iexact Ha
  isplitr; · iapply (mark_of (F := F) (mate c) 0); iexact HR
  isplitr; · iapply (mark_of (F := F) (mate c) 2); iexact HR
  isplitr; · iapply (mark_of (F := F) c 1); iexact HR
  isplitr; · iapply (mark_of (F := F) c 2); iexact HR
  iexact Ht

omit [FloatOps F] in
/-- The barrier and receive tokens change places between partners. -/
theorem tokens_swap : (bigSep Finset.univ fun c : Dev nD => (bigSep Finset.univ fun k : Fin 3 => dutyTok embX (cell c k) 0 () : sProp 𝕄))
    ⊢ bigSep Finset.univ fun c : Dev nD => tokensOf c := by
  unfold tokensOf
  simp only [three]
  rw [bigSep_sep', bigSep_sep', bigSep_sep', bigSep_sep', bigSep_univ_equiv matePerm (fun c : Dev nD => (dutyTok embX (cell c 0) 0 () : sProp 𝕄)),
    bigSep_univ_equiv matePerm (fun c : Dev nD => (dutyTok embX (cell c 2) 0 () : sProp 𝕄))]
  iintro ⟨HB, HS, HV⟩
  isplitl [HB]; · iexact HB
  isplitl [HV]; · iexact HV
  iexact HS

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem hand_out :
    (bigSep Finset.univ fun c : Dev nD => iprop((bigSep Finset.univ fun k => iprop(∃ κ : ℕ, cellInv embX (sched m) κ (cell c k)))
          ∗ (bigSep Finset.univ fun k : Fin 3 => iprop(atPos embX (cell c k) 0 ∅ 0 ∗ reached embX (cell c k) 0))
          ∗ bigSep Finset.univ fun k : Fin 3 => dutyTok embX (cell c k) 0 ()) : sProp 𝕄)
      ⊢ bigSep Finset.univ (ready m) := by
  rw [bigSep_sep', bigSep_sep', ← bigSep_univ_prod (fun ck : Dev nD × Fin 3 => iprop(∃ κ : ℕ, cellInv embX (sched m) κ (cell ck.1 ck.2))),
    bigSep_congr (s := Finset.univ) (fun (c : Dev nD) _ => bigSep_sep' Finset.univ (fun k : Fin 3 => (atPos embX (cell c k) 0 ∅ 0 : sProp 𝕄)) (fun k => reached embX (cell c k) 0)),
    bigSep_sep', ← bigSep_univ_prod (fun ck : Dev nD × Fin 3 => (reached embX (cell ck.1 ck.2) 0 : sProp 𝕄))]
  iintro ⟨HI, ⟨Hat, #HR⟩, Htok⟩
  ihave HK := (BI.bigSep_exists_pi Finset.univ (fun (ck : Dev nD × Fin 3) (κ : ℕ) => (cellInv embX (sched m) κ (cell ck.1 ck.2) : sProp 𝕄))) $$ HI
  icases HK with ⟨%K, #HI⟩
  ihave Htk := (tokens_swap (F := F)) $$ Htok
  iapply (bigSep_with (R := shared m K) fun c _ => ready_intro m K c)
  isplitr
  · unfold shared; isplitl; · iexact HI
    iexact HR
  · iapply ((Entails.of_eq (bigSep_sep' Finset.univ (fun c : Dev nD => bigSep Finset.univ fun k : Fin 3 => (atPos embX (cell c k) 0 ∅ 0 : sProp 𝕄)) tokensOf).symm).trans
      (bigSep_mono fun c _ => show _ ⊢ kept c from Entails.of_eq (by unfold kept; rw [three])))
    isplitl [Hat]; · iexact Hat
    iexact Htk

/-- The global step: every device's semaphores at once. -/
theorem global_step : (bigSep Finset.univ fun c => iprop(Pipeline.ownSems0 (Ix := Unit) (Name := ℕ) (U := Res) (Lvl := ℕ) (Val := Elt F) (τ := τ) ownSem c ∗ unscopedSems0 c ∗ dealt m c) : sProp 𝕄)
    ⊢ |={Set.univ}=> bigSep Finset.univ (ready m) :=
  ((bigSep_mono fun c _ => alloc_one m c).trans (bigSep_fupd _ _)).trans (BI.fupd_mono (hand_out m))

/-! ## The credit at launch -/

/-- What `d` owes cell `k` of `c`, for the two cells its partner pays. -/
theorem owed_bar (d c : Dev nD) : owedAt d (cell c 0) () = if d = mate c then 1 else 0 := by
  unfold owedAt
  rw [Pi.add_apply, Finsupp.add_apply, tallyAt_ne_cell (fun h => absurd (cell_eq_iff.mp h).2 (by decide)), tallyAt_apply, Finsupp.zero_apply, Nat.zero_add]
  by_cases h : d = mate c
  · subst h; rw [mate_mate, if_pos ⟨rfl, rfl⟩, if_pos rfl]
  · rw [if_neg (fun ⟨h1, _⟩ => h (mate_eq_iff.mp (cell_eq_iff.mp h1).1.symm)), if_neg h]
theorem owed_recv (d c : Dev nD) : owedAt d (cell c 2) () = if d = mate c then credit else 0 := by
  unfold owedAt
  rw [Pi.add_apply, Finsupp.add_apply, tallyAt_apply, tallyAt_ne_cell (fun h => absurd (cell_eq_iff.mp h).2 (by decide)), Finsupp.zero_apply, Nat.add_zero]
  by_cases h : d = mate c
  · subst h; rw [mate_mate, if_pos ⟨rfl, rfl⟩, if_pos rfl]
  · rw [if_neg (fun ⟨h1, _⟩ => h (mate_eq_iff.mp (cell_eq_iff.mp h1).1.symm)), if_neg h]

theorem launch_of (c : Dev nD) (k : Fin 3) (n : ℕ) (h : ∀ d : Dev nD, owedAt d (cell c k) () = if d = mate c then n else 0) :
    tallyOn (cell c k) (launchCredit (Pipeline.owing owedAt) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

omit [FloatOps F] in
theorem credits (c : Dev nD) : (Pipeline.launchCred owedAt c : sProp 𝕄) ⊢ iprop(cred (tallyAt (cell c 0) () 1) ∗ cred (tallyAt (cell c 2) () credit)) := by
  unfold Pipeline.launchCred
  rw [bigSep_univ_at _ (SemLoc.reg barS), launch_of c 0 1 (fun d => owed_bar d c)]
  refine sep_mono_right ?_
  rw [← launch_of c 2 credit (fun d => owed_recv d c)]
  exact bigSep_elim (Finset.mem_erase.mpr ⟨(show SemLoc.dma recvS ≠ SemLoc.reg barS by decide), Finset.mem_univ _⟩)

/-! ## The launch theorem's side conditions -/

theorem start_ok (c : Dev nD) :
    iprop(Pipeline.unscopedRestP Pipeline.Prefetch.none cfg0.spec c (fun b => m ((c : Thread nD τ).loc b)) ∗ levAts ixs level
        ∗ Pipeline.launchCred owedAt c ∗ prngReg c (ρ c) ∗ ready m c)
      ⊢ |={Set.univ}=> iprop(startOf m c ∗ emp) := by
  iintro ⟨-, Hlev, Hcr, -, HG⟩
  ihave Hc := (credits (F := F) c) $$ Hcr
  icases Hc with ⟨H1, HN⟩
  imodintro
  unfold startOf ready
  isplitl
  · isplitl [HG]; · iexact HG
    isplitl [H1]; · iexact H1
    isplitl [HN]; · iexact HN
    iexact Hlev
  · iempintro

theorem enter_ok (c : Dev nD) :
    iprop(startOf m c ∗ Pipeline.prefHeld Pipeline.Prefetch.none c (fun _ => fullShare.right) (fun k => k.elim0) ∗ Pipeline.scopedRest cfg0.spec c)
      ⊢ (data m 0 c).Φ 0 := by
  rw [show (data m 0 c).Φ 0 = before₀ m c from rfl, scopedRest0_eq]
  unfold before₀
  iintro ⟨Hs, -, ⟨%f, Hm⟩, ⟨%g, Hl⟩⟩
  isplitl [Hs]; · iexact Hs
  isplitl [Hm]
  · iexists f; rw [minePts_eq]; iexact Hm
  · iexists g; rw [landPts_eq]; iexact Hl

theorem exit_ok (c : Dev nD) :
    (data m 0 c).Φ (Fin.last cfg0.N) ⊢ iprop(unscopedSems0 c ∗ Pipeline.ownSems0 ownSem c ∗ Pipeline.scopedRest cfg0.spec c) := by
  rw [show (data m 0 c).Φ (Fin.last cfg0.N) = after₀ m c from rfl, scopedRest0_eq, ownSems_eq, runtimeSems_eq]
  unfold after₀
  iintro ⟨⟨Hm, Hl⟩, HzB, HzS, HzV⟩
  isplitl [HzB]; · iexact HzB
  isplitl [HzS HzV]
  · isplitl [HzS] <;> iassumption
  isplitl [Hm]
  · iexists (topAt m c); rw [← minePts_eq]; iexact Hm
  · iexists (topAt m (mate c)); rw [← landPts_eq]; iexact Hl

theorem waits_ok (c : Dev nD) : (levAts ixs level : sProp 𝕄) ⊢ Pipeline.cellsWaits cfgs (data m) () 0 c :=
  Pipeline.cellsWaits_intro cfgs (data m) () 0 c fun w s t =>
    wait_stage c _ (by fin_cases w <;> fin_cases s <;> decide) _ (by
      rcases t with ⟨_ | _, ht⟩
      · exact Or.inl rfl
      · exact Or.inr rfl)

theorem share_ok (c : Dev nD) (w : Fin cfg0.W) : (data m 0 c).share w = fullShare := by unfold Dat.share; split <;> rfl

/-! ## The run -/

/-- What window `w`'s array holds on device `c` after the run. -/
def finalOf (c : Dev nD) (w : Fin cfg0.W) : Buf (Elt F) ((cfg0.win w).arr.view.loc (c : Thread nD τ)) := (data m 0 c).arrAt w cfg0.N

/-- From any memory with every semaphore at zero, the program terminates with every window's array at its final
    contents and every semaphore at zero. -/
theorem run_windows : θ_run defs (onTc (τ := τ) (main (F := F))) ⟨m, fun _ => 0, ρ⟩
    (fun r => (∀ c : Dev nD, ∀ w : Fin cfg0.W, r.2.mem ((cfg0.win w).arr.view.loc (c : Thread nD τ)) = finalOf m c w) ∧ r.2.sem = fun _ => 0) :=
  Pipeline.θ_run_region_owing_glob_pf (fun p => (cfgs p).toPCfg) (fun p => (cfgs p).toPCfg_adm) (data m) () cellOf_inj (0 : Fin 1)
    winFacts0.to₀ ownSem_ok (Pipeline.PreFacts.none _) embPipe defs₀ noVar m ρ main
    (hmain := fun _ => rfl)
    (hbody := body_ok m) (hne := block_pos0) (harr := arr_whole0) (hstage := stage_whole0) (hshare := share_ok m)
    (hdistinct := winFacts0.arr_inj)
    (O₀ := owedAt) (howed₀ := fun _ => rfl) (howedN := fun _ => rfl)
    (L := ixs) (lv := level) (hL := ixs_of_ne) (hwaits := waits_ok m)
    (G := dealt m) (G' := ready m) (u₀ := launchElem)
    (hu₀ := by
      unfold launchElem
      iintro Hu
      ihave H := (ownU_pair _ _) $$ Hu
      icases H with ⟨HP, HX⟩
      imod (deal m) $$ HX with HG
      imodintro
      isplitl [HP] <;> iassumption)
    (hglob := global_step m)
    (hA := fun _ _ => rfl) (hpf := fun _ k => k.elim0)
    (X := startOf m) (Y := fun c => unscopedSems0 c) (Z := fun _ => iprop(emp))
    (hX := start_ok m ρ) (hin := enter_ok m) (hout := exit_ok m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is unchanged. -/
theorem final_arg (c : Dev nD) : finalOf m c (0 : Fin 2) = m ((c : Thread nD τ).loc main_arg0) :=
  (data (F := F) m 0 c).arrAt_in (0 : Fin 2) rfl _

/-- The staged block is the whole argument array of the device. -/
theorem blockAt_eq (c : Dev nD) : blockAt m c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The result's array holds the merged columns. -/
theorem final_out (c : Dev nD) : finalOf m c (1 : Fin 2) = resultAt m c := by
  have hr := fun f => Memref.read_access_unit_zero (Elt F) main_v1
    (show (fun a => (win0_1.index (0 : Fin 1)) a * main_v1.ty.shape.size a) = fun _ => 0 from funext fun a => by fin_cases a <;> decide)
    (fun a => by fin_cases a <;> decide) f
  have ho : (win0_1.blk (0 : Fin 1)).view.read (Elt F) (finalOf m c (1 : Fin 2)) = resultAt m c := by
    unfold finalOf
    rw [show cfg0.N = t0_0.val + 1 from rfl, (data m 0 c).arrAt_succ (1 : Fin 2) t0_0, flush0_1, if_pos rfl]
    exact View.read_write_univ _ _
  exact (hr _).symm.trans ho

/-- The run: the result of device `c` is the merge of its own and its partner's eight columns, the argument is
    unchanged and every semaphore is at zero. -/
theorem run_all : θ_run defs (onTc (τ := τ) (main (F := F))) ⟨m, fun _ => 0, ρ⟩
    (fun r => (∀ c : Dev nD, r.2.mem ((c.tc : Thread nD τ).loc main_v1)
          = mergeOf (topOf (m ((c.tc : Thread nD τ).loc main_arg0))) (topOf (m (((mate c).tc : Thread nD τ).loc main_arg0)))
        ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans ((final_out m c).trans (by
      unfold resultAt topAt; rw [blockAt_eq, blockAt_eq])), (h.1 c (0 : Fin 2)).trans (final_arg m c)⟩, h.2⟩) (run_windows m ρ)

end Cert.KernelIdeal.Topk

end
-- ==== Proof.Math.Kth.lean ====
/- The `k`-th largest value of a finite family of extended reals, characterised by how many members of the family
   reach a threshold. No order of the family and no sort is mentioned: two families with the same counts have the
   same `k`-th largest values. -/
module

public import Mathlib.Data.EReal.Basic
public import Mathlib.Data.Fintype.Card
public import Mathlib.Data.Fintype.BigOperators
public import Mathlib.Algebra.BigOperators.Fin
public import Mathlib.Algebra.Order.BigOperators.Group.Finset
public import Mathlib.Tactic.FinCases
public import Mathlib.Tactic.IntervalCases

@[expose] public section

noncomputable section

namespace Cert.Topk

variable {ι κ : Type} [Fintype ι] [Fintype κ]

/-- How many members of the family `x` are at least `t`. -/
def reach (x : ι → EReal) (t : EReal) : ℕ := (Finset.univ.filter fun i => t ≤ x i).card

/-- `v` is the `k`-th largest member of `x`, counting from zero: a threshold is at most `v` exactly when more than
    `k` members reach it. -/
def Kth (x : ι → EReal) (k : ℕ) (v : EReal) : Prop := ∀ t, t ≤ v ↔ k < reach x t

/-- There is only one `k`-th largest value. -/
theorem Kth.unique {x : ι → EReal} {k : ℕ} {v w : EReal} (hv : Kth x k v) (hw : Kth x k w) : v = w :=
  le_antisymm ((hw v).mpr ((hv v).mp le_rfl)) ((hv w).mpr ((hw w).mp le_rfl))

/-- Families with the same counts have the same `k`-th largest value. -/
theorem Kth.of_reach {x : ι → EReal} {y : κ → EReal} (h : ∀ t, reach x t = reach y t) {k : ℕ} {v : EReal}
    (hv : Kth x k v) : Kth y k v := fun t => by rw [hv t, h t]

/-- The count as a sum of indicators. -/
theorem reach_eq_sum (x : ι → EReal) (t : EReal) : reach x t = ∑ i, if t ≤ x i then 1 else 0 := by
  unfold reach; rw [Finset.card_filter]

/-- Renaming the family's members changes no count. -/
theorem reach_equiv (e : κ ≃ ι) (x : ι → EReal) (t : EReal) : reach (fun k => x (e k)) t = reach x t := by
  rw [reach_eq_sum, reach_eq_sum]
  exact Equiv.sum_comp e fun i => if t ≤ x i then 1 else 0

/-- The count of a family over a disjoint union is the sum of the two counts. -/
theorem reach_sum (x : ι ⊕ κ → EReal) (t : EReal) :
    reach x t = reach (fun i => x (.inl i)) t + reach (fun k => x (.inr k)) t := by
  rw [reach_eq_sum, reach_eq_sum, reach_eq_sum, Fintype.sum_sum_type]

/-- The count of a family over pairs, one first coordinate at a time. -/
theorem reach_prod (x : ι × κ → EReal) (t : EReal) : reach x t = ∑ i, reach (fun k => x (i, k)) t := by
  rw [reach_eq_sum, Fintype.sum_prod_type]
  exact Finset.sum_congr rfl fun i _ => (reach_eq_sum _ t).symm

/-- A family listed in descending order by a bijection: its `k`-th entry is its `k`-th largest member. -/
theorem kth_of_antitone {n : ℕ} (σ : Fin n ≃ ι) (x : ι → EReal) (h : ∀ i j : Fin n, i < j → x (σ j) ≤ x (σ i))
    (k : Fin n) : Kth x k.val (x (σ k)) := by
  intro t
  rw [← reach_equiv σ x t]
  have hle : ∀ i j : Fin n, i ≤ j → x (σ j) ≤ x (σ i) := fun i j hij => by
    rcases hij.lt_or_eq with hlt | rfl
    · exact h i j hlt
    · exact le_rfl
  constructor
  · intro ht
    have hsub : Finset.Iic k ⊆ Finset.univ.filter fun i => t ≤ x (σ i) := fun i hi =>
      Finset.mem_filter.mpr ⟨Finset.mem_univ i, ht.trans (hle i k (Finset.mem_Iic.mp hi))⟩
    have hc := Finset.card_le_card hsub
    rw [Fin.card_Iic] at hc
    exact hc
  · intro hc
    by_contra ht
    have hsub : (Finset.univ.filter fun i => t ≤ x (σ i)) ⊆ Finset.Iio k := fun i hi => by
      rw [Finset.mem_Iio]
      by_contra hik
      exact ht ((Finset.mem_filter.mp hi).2.trans (hle k i (not_lt.mp hik)))
    have hc' := Finset.card_le_card hsub
    rw [Fin.card_Iio] at hc'
    exact absurd hc' (not_le.mpr hc)

end Cert.Topk

end

end
-- ==== Proof.Math.Rounds.lean ====
/- The `k` largest members of a family held as descending lanes, taken out one round at a time: a round yields the
   greatest head and moves every lane whose head equals it up by one. When the largest members are pairwise different
   a round moves exactly one lane, and round `k` yields the `k`-th largest member. -/
module

public import proofs.«01_k».proof.Proof.Math.Kth

@[expose] public section

noncomputable section

namespace Cert.Topk

variable {L : Type} [Fintype L]

/-- The greatest head of the lanes. -/
def topHead (q : ℕ → L → EReal) : EReal := Finset.univ.fold max ⊥ fun l => q 0 l

/-- The lanes after some rounds: entry `j` of lane `l`. A round replaces the lanes whose head is the greatest by their
    tails. -/
def lanes (p : ℕ → L → EReal) : ℕ → ℕ → L → EReal
  | 0 => p
  | k + 1 => fun j l => if lanes p k 0 l = topHead (lanes p k) then lanes p k (j + 1) l else lanes p k j l

theorem le_topHead (q : ℕ → L → EReal) (l : L) : q 0 l ≤ topHead q :=
  Finset.le_sup (f := fun l => q 0 l) (Finset.mem_univ l)

theorem exists_topHead [Nonempty L] (q : ℕ → L → EReal) : ∃ l, q 0 l = topHead q := by
  obtain ⟨l, -, h⟩ := Finset.exists_mem_eq_sup (Finset.univ : Finset L) Finset.univ_nonempty fun l => q 0 l
  exact ⟨l, h.symm⟩

/-- The lanes' first eight entries as one family. -/
def entries (p : ℕ → L → EReal) : L × Fin 8 → EReal := fun a => p a.2.val a.1

/-- What holds before round `k`: lane `l` has given up its first `h l` entries, `k` in all; what is left of the planes
    reads the lanes from there; and an entry given up is at least every head. -/
structure Taken (p : ℕ → L → EReal) (k : ℕ) (h : L → ℕ) : Prop where
  total : ∑ l, h l = k
  read : ∀ j l, j + k < 8 → lanes p k j l = p (j + h l) l
  above : ∀ l l' i, i < h l → p (h l') l' ≤ p i l

namespace Taken

variable {p : ℕ → L → EReal} {k : ℕ} {h : L → ℕ}

theorem le (H : Taken p k h) (l : L) : h l ≤ k := by
  rw [← H.total]; exact Finset.single_le_sum (f := h) (fun _ _ => Nat.zero_le _) (Finset.mem_univ l)

theorem head (H : Taken p k h) (hk : k < 8) (l : L) : lanes p k 0 l = p (h l) l := by
  rw [H.read 0 l (by omega), Nat.zero_add]

end Taken

/-- A descending lane's later entry is at most an earlier one. -/
theorem lane_le {p : ℕ → L → EReal} (hp : ∀ l j, j < 7 → p (j + 1) l ≤ p j l) (l : L) (i j : ℕ) (hij : i ≤ j) (hj : j < 8) :
    p j l ≤ p i l := by
  induction j, hij using Nat.le_induction with
  | base => exact le_rfl
  | succ j _ ih => exact (hp l j (by omega)).trans (ih (by omega))

/-- The entries below the heads, as a set of as many members as were given up. -/
theorem card_below (h : L → ℕ) (k : ℕ) (hle : ∀ l, h l ≤ 8) (hsum : ∑ l, h l = k) :
    (Finset.univ.filter fun a : L × Fin 8 => a.2.val < h a.1).card = k := by
  rw [Finset.card_filter, Fintype.sum_prod_type, ← hsum]
  refine Finset.sum_congr rfl fun l _ => ?_
  rw [← Finset.card_filter]
  have hb := hle l
  show (Finset.univ.filter fun i : Fin 8 => i.val < h l).card = h l
  generalize h l = m at hb ⊢
  interval_cases m <;> decide

variable {p : ℕ → L → EReal} (hp : ∀ l j, j < 7 → p (j + 1) l ≤ p j l) {k : ℕ} {h : L → ℕ}

include hp in
/-- Before round `k` the greatest head is the `k`-th largest member of all. -/
theorem Taken.kth [Nonempty L] (H : Taken p k h) (hk : k < 8) : Kth (entries p) k (topHead (lanes p k)) := by
  classical
  obtain ⟨m, hm⟩ := exists_topHead (lanes p k)
  rw [H.head hk] at hm
  have hcard := card_below h k (fun l => (H.le l).trans (by omega)) H.total
  intro t
  constructor
  · intro ht
    have hmk := H.le m
    have hnot : (m, (⟨h m, by omega⟩ : Fin 8)) ∉ Finset.univ.filter fun a : L × Fin 8 => a.2.val < h a.1 := by simp
    have hsub : insert (m, (⟨h m, by omega⟩ : Fin 8)) (Finset.univ.filter fun a : L × Fin 8 => a.2.val < h a.1)
        ⊆ Finset.univ.filter fun a => t ≤ entries p a := by
      intro a ha
      refine Finset.mem_filter.mpr ⟨Finset.mem_univ a, ?_⟩
      rcases Finset.mem_insert.mp ha with rfl | ha
      · exact ht.trans hm.symm.le
      · exact (ht.trans hm.symm.le).trans (H.above a.1 m a.2.val (Finset.mem_filter.mp ha).2)
    have hc := Finset.card_le_card hsub
    rw [Finset.card_insert_of_notMem hnot, hcard] at hc
    exact hc
  · intro hc
    by_contra ht
    have hsub : (Finset.univ.filter fun a => t ≤ entries p a)
        ⊆ Finset.univ.filter fun a : L × Fin 8 => a.2.val < h a.1 := by
      intro a ha
      refine Finset.mem_filter.mpr ⟨Finset.mem_univ a, ?_⟩
      by_contra hb
      refine ht ((Finset.mem_filter.mp ha).2.trans ?_)
      have h1 : entries p a ≤ p (h a.1) a.1 := lane_le hp a.1 _ _ (not_lt.mp hb) a.2.isLt
      have h2 := le_topHead (lanes p k) a.1
      rw [H.head hk] at h2
      exact h1.trans h2
    have hc' := Finset.card_le_card hsub
    rw [hcard] at hc'
    unfold reach at hc
    omega

include hp in
/-- A round that yields a value reached by no more than `k + 1` members moves one lane. -/
theorem Taken.step [Nonempty L] (H : Taken p k h) (hk : k < 7) (hone : reach (entries p) (topHead (lanes p k)) ≤ k + 1) :
    Taken p (k + 1) fun l => h l + if lanes p k 0 l = topHead (lanes p k) then 1 else 0 := by
  classical
  have hcard := card_below h k (fun l => (H.le l).trans (by omega)) H.total
  obtain ⟨m, hm⟩ := exists_topHead (lanes p k)
  have huniq : ∀ l, lanes p k 0 l = topHead (lanes p k) → l = m := by
    intro l hl
    by_contra hne
    rw [H.head (by omega)] at hl hm
    have hmk := H.le m
    have hlk := H.le l
    have hn1 : (m, (⟨h m, by omega⟩ : Fin 8)) ∉ Finset.univ.filter fun a : L × Fin 8 => a.2.val < h a.1 := by simp
    have hn2 : (l, (⟨h l, by omega⟩ : Fin 8)) ∉ insert (m, (⟨h m, by omega⟩ : Fin 8))
        (Finset.univ.filter fun a : L × Fin 8 => a.2.val < h a.1) := by simp [hne]
    have hsub : insert (l, (⟨h l, by omega⟩ : Fin 8)) (insert (m, (⟨h m, by omega⟩ : Fin 8))
          (Finset.univ.filter fun a : L × Fin 8 => a.2.val < h a.1))
        ⊆ Finset.univ.filter fun a => topHead (lanes p k) ≤ entries p a := by
      intro a ha
      refine Finset.mem_filter.mpr ⟨Finset.mem_univ a, ?_⟩
      rcases Finset.mem_insert.mp ha with rfl | ha
      · exact hl.symm.le
      rcases Finset.mem_insert.mp ha with rfl | ha
      · exact hm.symm.le
      · exact hm.symm.le.trans (H.above a.1 m a.2.val (Finset.mem_filter.mp ha).2)
    have hc := Finset.card_le_card hsub
    rw [Finset.card_insert_of_notMem hn2, Finset.card_insert_of_notMem hn1, hcard] at hc
    unfold reach at hone
    omega
  refine ⟨?_, ?_, ?_⟩
  · rw [Finset.sum_add_distrib, H.total, Finset.sum_eq_single m (fun l _ hl => if_neg fun e => hl (huniq l e))
      (fun hmem => absurd (Finset.mem_univ m) hmem), if_pos hm]
  · intro j l hj
    show (if lanes p k 0 l = topHead (lanes p k) then lanes p k (j + 1) l else lanes p k j l) = _
    split
    · rw [H.read (j + 1) l (by omega)]; congr 1; omega
    · rw [H.read j l (by omega)]; rfl
  · intro l l' i hi
    have hlow : p (h l' + if lanes p k 0 l' = topHead (lanes p k) then 1 else 0) l' ≤ p (h l') l' := by
      have := H.le l'
      refine lane_le hp l' _ _ (Nat.le_add_right _ _) ?_
      split <;> omega
    have hi : i < h l + if lanes p k 0 l = topHead (lanes p k) then 1 else 0 := hi
    by_cases hil : i < h l
    · exact hlow.trans (H.above l l' i hil)
    · by_cases e : lanes p k 0 l = topHead (lanes p k)
      · rw [if_pos e] at hi
        have hie : i = h l := by omega
        subst hie
        rw [H.head (by omega)] at e
        have h2 := le_topHead (lanes p k) l'
        rw [H.head (by omega)] at h2
        exact hlow.trans (h2.trans e.symm.le)
      · rw [if_neg e] at hi
        omega

include hp in
/-- When the eight largest members are `s 0 > s 1 > … > s 7`, round `k` yields `s k`. -/
theorem rounds_kth [Nonempty L] (s : ℕ → EReal) (hs : ∀ k, k < 8 → Kth (entries p) k (s k))
    (hlt : ∀ k, k < 7 → s (k + 1) < s k) (k : ℕ) (hk : k < 8) : Kth (entries p) k (topHead (lanes p k)) := by
  have hinv : ∀ k, k < 8 → ∃ h, Taken p k h := by
    intro k
    induction k with
    | zero => exact fun _ => ⟨fun _ => 0, by simp, fun j l _ => rfl, fun _ _ _ hi => absurd hi (Nat.not_lt_zero _)⟩
    | succ k ih =>
      intro hk
      obtain ⟨h, H⟩ := ih (by omega)
      refine ⟨_, H.step hp (by omega) ?_⟩
      rw [(H.kth hp (by omega)).unique (hs k (by omega))]
      by_contra hc
      exact absurd ((hs (k + 1) hk (s k)).mpr (by omega)) (not_le.mpr (hlt k (by omega)))
  obtain ⟨h, H⟩ := hinv k hk
  exact H.kth hp hk

end Cert.Topk

end

end
-- ==== Proof.Math.Network.lean ====
/- Two comparator networks over a pair of operations `mx`, `mn`: the one that puts eight values in descending order and
   the one that merges two descending lists of eight, keeping the eight largest. At `max` and `min` of the extended reals
   a threshold turns each comparator into "or" and "and" of two truth values, so what the networks compute is decided
   on truth values. -/
module

public import proofs.«01_k».proof.Proof.Math.Kth

@[expose] public section

noncomputable section

namespace Cert.Topk

section
variable {α : Type} (mx mn : α → α → α)

/-- Four values in descending order, by five comparators. -/
def four (a b c d : α) : α × α × α × α :=
  (mx (mx a b) (mx c d), mx (mx (mn a b) (mn c d)) (mn (mx a b) (mx c d)),
   mn (mx (mn a b) (mn c d)) (mn (mx a b) (mx c d)), mn (mn a b) (mn c d))

/-- Eight values in descending order: two fours, merged by nine comparators. -/
def eight (c : Fin 8 → α) : Fin 8 → α :=
  let p := four mx mn (c 0) (c 1) (c 2) (c 3)
  let q := four mx mn (c 4) (c 5) (c 6) (c 7)
  let e := mx p.2.2.1 q.2.2.1
  let f := mn p.2.2.1 q.2.2.1
  let u := mx e (mn p.1 q.1)
  let v := mn e (mn p.1 q.1)
  let g := mx p.2.1 q.2.1
  let w := mn p.2.1 q.2.1
  let s := mx p.2.2.2 q.2.2.2
  let y := mx s w
  let z := mn s w
  ![mx p.1 q.1, mx g u, mn g u, mx y v, mn y v, mx z f, mn z f, mn p.2.2.2 q.2.2.2]

/-- Two descending lists of eight merged: the larger of `a i` and `b (7 - i)`, and those eight in descending order. -/
def merge (a b : Fin 8 → α) : Fin 8 → α :=
  let m : Fin 8 → α := fun i => mx (a i) (b i.rev)
  let u : Fin 4 → α := fun i => mx (m (i.castLE (by decide))) (m (i.natAdd 4))
  let v : Fin 4 → α := fun i => mn (m (i.castLE (by decide))) (m (i.natAdd 4))
  let uu : Fin 2 → α := ![mx (u 0) (u 2), mx (u 1) (u 3)]
  let uv : Fin 2 → α := ![mn (u 0) (u 2), mn (u 1) (u 3)]
  let vu : Fin 2 → α := ![mx (v 0) (v 2), mx (v 1) (v 3)]
  let vv : Fin 2 → α := ![mn (v 0) (v 2), mn (v 1) (v 3)]
  ![mx (uu 0) (uu 1), mn (uu 0) (uu 1), mx (uv 0) (uv 1), mn (uv 0) (uv 1),
    mx (vu 0) (vu 1), mn (vu 0) (vu 1), mx (vv 0) (vv 1), mn (vv 0) (vv 1)]

end

section
variable {α β : Type} {mx mn : α → α → α} {mx' mn' : β → β → β} (f : α → β) (hx : ∀ a b, f (mx a b) = mx' (f a) (f b))
  (hn : ∀ a b, f (mn a b) = mn' (f a) (f b))
include hx hn

/-- A map that carries each comparator to a comparator carries the ordering network along. -/
theorem map_eight (c : Fin 8 → α) (j : Fin 8) : f (eight mx mn c j) = eight mx' mn' (fun i => f (c i)) j := by
  fin_cases j <;> simp only [eight, four, Fin.mk_zero, Fin.mk_one, Fin.reduceFinMk, Matrix.cons_val, hx, hn]

/-- A map that carries each comparator to a comparator carries the merging network along. -/
theorem map_merge (a b : Fin 8 → α) (j : Fin 8) :
    f (merge mx mn a b j) = merge mx' mn' (fun i => f (a i)) (fun i => f (b i)) j := by
  fin_cases j <;> simp only [merge, Fin.mk_zero, Fin.mk_one, Fin.reduceFinMk, Matrix.cons_val, hx, hn]

end

theorem decide_le_max (t a b : EReal) : decide (t ≤ max a b) = (decide (t ≤ a) || decide (t ≤ b)) := by
  rw [← Bool.decide_or]; exact decide_eq_decide.mpr le_max_iff

theorem decide_le_min (t a b : EReal) : decide (t ≤ min a b) = (decide (t ≤ a) && decide (t ≤ b)) := by
  rw [← Bool.decide_and]; exact decide_eq_decide.mpr le_min_iff

/-- A threshold carries the ordering network on extended reals to the one on truth values. -/
theorem decide_eight (c : Fin 8 → EReal) (t : EReal) (j : Fin 8) :
    decide (t ≤ eight max min c j) = eight or and (fun i => decide (t ≤ c i)) j :=
  map_eight (fun v => decide (t ≤ v)) (decide_le_max t) (decide_le_min t) c j

/-- A threshold carries the merging network on extended reals to the one on truth values. -/
theorem decide_merge (a b : Fin 8 → EReal) (t : EReal) (j : Fin 8) :
    decide (t ≤ merge max min a b j) = merge or and (fun i => decide (t ≤ a i)) (fun i => decide (t ≤ b i)) j :=
  map_merge (fun v => decide (t ≤ v)) (decide_le_max t) (decide_le_min t) a b j

/-- On truth values the ordering network puts the true ones first. -/
theorem eight_bool : ∀ b0 b1 b2 b3 b4 b5 b6 b7 : Bool, ∀ j : Fin 8,
    eight or and ![b0, b1, b2, b3, b4, b5, b6, b7] j
      = decide (j.val < b0.toNat + b1.toNat + b2.toNat + b3.toNat + b4.toNat + b5.toNat + b6.toNat + b7.toNat) := by
  decide

/-- On truth values the merging network of two lists with the true ones first has as many true ones first as the two
    lists have together. -/
theorem merge_bool : ∀ m n : Fin 9, ∀ j : Fin 8,
    merge or and (fun i => decide (i.val < m.val)) (fun i => decide (i.val < n.val)) j = decide (j.val < m.val + n.val) := by
  decide

/-- The ordering network's entry `j` reaches a threshold exactly when more than `j` of its inputs do. -/
theorem kth_eight (c : Fin 8 → EReal) (j : Fin 8) : Kth c j.val (eight max min c j) := by
  intro t
  have h := decide_eight c t j
  have e : (fun i => decide (t ≤ c i)) = ![decide (t ≤ c 0), decide (t ≤ c 1), decide (t ≤ c 2), decide (t ≤ c 3),
      decide (t ≤ c 4), decide (t ≤ c 5), decide (t ≤ c 6), decide (t ≤ c 7)] := by
    funext i; fin_cases i <;> rfl
  rw [e, eight_bool, decide_eq_decide] at h
  rw [h, reach_eq_sum, Fin.sum_univ_eight]
  simp only [Bool.toNat, Bool.cond_decide]

/-- The merging network's entry `j` is the `j`-th largest of two families together, where its inputs are the eight
    largest of each in descending order. -/
theorem kth_merge {ι κ : Type} [Fintype ι] [Fintype κ] (x : ι → EReal) (y : κ → EReal) (a b : Fin 8 → EReal)
    (ha : ∀ i : Fin 8, Kth x i.val (a i)) (hb : ∀ i : Fin 8, Kth y i.val (b i)) (j : Fin 8) :
    Kth (Sum.elim x y) j.val (merge max min a b j) := by
  intro t
  have h := decide_merge a b t j
  have hx : (fun i => decide (t ≤ a i))
      = fun i : Fin 8 => decide (i.val < (⟨min (reach x t) 8, by omega⟩ : Fin 9).val) := by
    funext i; rw [decide_eq_decide, ha i t]; have := i.isLt; dsimp only; omega
  have hy : (fun i => decide (t ≤ b i))
      = fun i : Fin 8 => decide (i.val < (⟨min (reach y t) 8, by omega⟩ : Fin 9).val) := by
    funext i; rw [decide_eq_decide, hb i t]; have := i.isLt; dsimp only; omega
  rw [hx, hy, merge_bool, decide_eq_decide] at h
  rw [h, reach_sum]
  have := j.isLt
  show j.val < min (reach x t) 8 + min (reach y t) 8 ↔ j.val < reach x t + reach y t
  omega

/-- Merging in the other order gives the same list. -/
theorem reach_sum_comm {ι κ : Type} [Fintype ι] [Fintype κ] (x : ι → EReal) (y : κ → EReal) (t : EReal) :
    reach (Sum.elim x y) t = reach (Sum.elim y x) t := by
  rw [reach_sum, reach_sum]; exact Nat.add_comm _ _

end Cert.Topk

end

end
-- ==== Proof.Value.Ops.lean ====
/- The vector operations of the kernel's two phases, each read at one row: a lane maximum, the comparison of a plane
   with its lane maximum, the choice by that comparison, and eight columns laid side by side. -/
module

public import proofs.«01_k».proof.Proof.KernelIdeal.Protocol
public import proofs.«01_k».proof.Proof.Math.Rounds
public import proofs.«01_k».proof.Proof.Math.Network
public import Idealize.ShloMosaic.Lib.Pointwise

@[expose] public section

set_option maxRecDepth 16384

noncomputable section

namespace Cert.KernelIdeal.Topk

open Cert.KernelIdeal Cert.KernelIdeal.Gen
open Idealize.ShloMosaic
open Cert.Topk

/-- The pattern of negative infinity denotes the least extended real. -/
theorem negInf : (FloatOps.ofBits .f32 0xFF800000#32 : Ideal .f32) = (⊥ : EReal) := by
  simp [Ideal.ofBits_def, Ideal.ofBits, Ideal.ieee]

/-- The column of a plane's lane maxima, read at a row. -/
theorem headCol_apply (v : FVec Ideal S256x128 .f32) (r : Fin 256) (h : S256.ShapeCasts S256x1) (h' : S256x128.Reduces [1] S256) :
    (shapeCast S256x1 (multiReduction .maximumf [1] S256 v 0xFF800000#32 h' (.inl rfl) rfl) h) (ix2 r 0)
      = Finset.univ.fold max ⊥ fun l : Fin 128 => v (ix2 r l) := by
  pointwise
  rw [show Ideal.ofBits .f32 0xFF800000#32 = ⊥ from negInf]

/-- A choice by whether a plane equals its column, read at a place. -/
theorem choose_apply (v a b : FVec Ideal S256x128 .f32) (u : FVec Ideal S256x1 .f32) (h : S256x1.Broadcasts S256x128)
    (r : Fin 256) (l : Fin 128) :
    (select (cmpf .oeq v (broadcastTo S256x128 u h)) a b : FVec Ideal S256x128 .f32) (ix2 r l)
      = if v (ix2 r l) = u (ix2 r 0) then a (ix2 r l) else b (ix2 r l) := by
  pointwise

/-- Eight columns side by side, read at a place. -/
theorem columns_apply (c0 c1 c2 c3 c4 c5 c6 c7 : FVec Ideal S256x1 .f32) (h) (r : Fin 256) (k : Fin 8) :
    concatenate S256x8 1 [⟨S256x1, c0⟩, ⟨S256x1, c1⟩, ⟨S256x1, c2⟩, ⟨S256x1, c3⟩, ⟨S256x1, c4⟩, ⟨S256x1, c5⟩, ⟨S256x1, c6⟩, ⟨S256x1, c7⟩] h (ix2 r k)
      = ![c0 (ix2 r 0), c1 (ix2 r 0), c2 (ix2 r 0), c3 (ix2 r 0), c4 (ix2 r 0), c5 (ix2 r 0), c6 (ix2 r 0), c7 (ix2 r 0)] k := by
  pointwise
  fin_vals k with hk
  all_goals simp only [hk, Nat.reduceSub, Nat.reduceLT, ↓reduceDIte]
  all_goals
    obtain ⟨k, hlt⟩ := k
    dsimp only at hk
    subst hk
    rfl

end Cert.KernelIdeal.Topk

end

end
-- ==== Proof.Value.Block.lean ====
/- The kernel's first phase on one block: the eight chunks of the block put in descending order lane by lane, and the
   rounds that take the eight largest entries of a row out of them. -/
module

public import proofs.«01_k».proof.Proof.Value.Ops

@[expose] public section

set_option maxRecDepth 16384

noncomputable section

namespace Cert.KernelIdeal.Topk

open Cert.KernelIdeal Cert.KernelIdeal.Gen
open Idealize.ShloMosaic
open Cert.Topk

/-- The eight entries of row `r` that lane `l` holds, one in each chunk of 128 columns. -/
def chunk (x : FVec Ideal S256x1024 .f32) (r : Fin 256) (l : Fin 128) (i : Fin 8) : EReal :=
  x (ix2 r ⟨128 * i.val + l.val, by omega⟩)

/-- Lane `l` of row `r` in descending order. -/
def lane (x : FVec Ideal S256x1024 .f32) (r : Fin 256) (j : ℕ) (l : Fin 128) : EReal :=
  eight max min (chunk x r l) (Fin.ofNat 8 j)

/-- A vector that holds, in row `r`, entry `j` of every lane after `k` rounds. -/
def IsPlane (x : FVec Ideal S256x1024 .f32) (r : Fin 256) (k j : ℕ) (v : FVec Ideal S256x128 .f32) : Prop :=
  ∀ l : Fin 128, v (ix2 r l) = lanes (lane x r) k j l

/-- A column that holds, in row `r`, what round `k` yields. -/
def IsHead (x : FVec Ideal S256x1024 .f32) (r : Fin 256) (k : ℕ) (u : FVec Ideal S256x1 .f32) : Prop :=
  u (ix2 r 0) = topHead (lanes (lane x r) k)

variable (x : FVec Ideal S256x1024 .f32) (r : Fin 256)

/-- The lane maximum of the heads is what the round yields. -/
theorem IsPlane.head {x : FVec Ideal S256x1024 .f32} {r : Fin 256} {k : ℕ} {v : FVec Ideal S256x128 .f32} (hv : IsPlane x r k 0 v)
    (h : S256.ShapeCasts S256x1) (h' : S256x128.Reduces [1] S256) :
    IsHead x r k (shapeCast S256x1 (multiReduction .maximumf [1] S256 v 0xFF800000#32 h' (.inl rfl) rfl) h) := by
  unfold IsHead
  rw [headCol_apply]
  exact congrArg (fun f => Finset.univ.fold max ⊥ f) (funext hv)

/-- The choice between the next entry and this one, by whether the head is the round's, is the next round's entry. -/
theorem IsPlane.next {x : FVec Ideal S256x1024 .f32} {r : Fin 256} {k j : ℕ} {v a b : FVec Ideal S256x128 .f32}
    {u : FVec Ideal S256x1 .f32} (hv : IsPlane x r k 0 v) (hu : IsHead x r k u) (ha : IsPlane x r k (j + 1) a)
    (hb : IsPlane x r k j b) (h : S256x1.Broadcasts S256x128) :
    IsPlane x r (k + 1) j (select (cmpf .oeq v (broadcastTo S256x128 u h)) a b) := fun l => by
  rw [choose_apply, hv l, hu, ha l, hb l]
  rfl

/-! ## The chunks and the ordering network -/

theorem chunk0_apply (l : Fin 128) : k0_pay3 (F := Ideal) x (ix2 r l) = chunk x r l 0 := by
  unfold k0_pay3 k0_pay2 chunk; pointwise

theorem chunk1_apply (l : Fin 128) : k0_pay4 (F := Ideal) x (ix2 r l) = chunk x r l 1 := by
  unfold k0_pay4 k0_pay2 chunk; pointwise

theorem chunk2_apply (l : Fin 128) : k0_pay5 (F := Ideal) x (ix2 r l) = chunk x r l 2 := by
  unfold k0_pay5 k0_pay2 chunk; pointwise

theorem chunk3_apply (l : Fin 128) : k0_pay6 (F := Ideal) x (ix2 r l) = chunk x r l 3 := by
  unfold k0_pay6 k0_pay2 chunk; pointwise

theorem chunk4_apply (l : Fin 128) : k0_pay7 (F := Ideal) x (ix2 r l) = chunk x r l 4 := by
  unfold k0_pay7 k0_pay2 chunk; pointwise

theorem chunk5_apply (l : Fin 128) : k0_pay8 (F := Ideal) x (ix2 r l) = chunk x r l 5 := by
  unfold k0_pay8 k0_pay2 chunk; pointwise

theorem chunk6_apply (l : Fin 128) : k0_pay9 (F := Ideal) x (ix2 r l) = chunk x r l 6 := by
  unfold k0_pay9 k0_pay2 chunk; pointwise

theorem chunk7_apply (l : Fin 128) : k0_pay10 (F := Ideal) x (ix2 r l) = chunk x r l 7 := by
  unfold k0_pay10 k0_pay2 chunk; pointwise

theorem chunks_eq (l : Fin 128) : (![k0_pay3 (F := Ideal) x (ix2 r l), k0_pay4 (F := Ideal) x (ix2 r l), k0_pay5 (F := Ideal) x (ix2 r l), k0_pay6 (F := Ideal) x (ix2 r l),
    k0_pay7 (F := Ideal) x (ix2 r l), k0_pay8 (F := Ideal) x (ix2 r l), k0_pay9 (F := Ideal) x (ix2 r l), k0_pay10 (F := Ideal) x (ix2 r l)] : Fin 8 → EReal) = chunk x r l := by
  rw [chunk0_apply, chunk1_apply, chunk2_apply, chunk3_apply, chunk4_apply, chunk5_apply, chunk6_apply, chunk7_apply]
  funext i; fin_cases i <;> rfl

theorem plane0_0 : IsPlane x r 0 0 (k0_pay31 (k0_pay15 x) (k0_pay25 x)) := fun l => by
  show _ = eight max min (chunk x r l) 0
  rw [← chunks_eq]
  rfl

theorem plane0_1 : IsPlane x r 0 1 (k0_pay42 (k0_pay15 x) (k0_pay19 x) (k0_pay20 x) (k0_pay25 x) (k0_pay26 x) (k0_pay27 x)) := fun l => by
  show _ = eight max min (chunk x r l) 1
  rw [← chunks_eq]
  rfl

theorem plane0_2 : IsPlane x r 0 2 (k0_pay43 (k0_pay15 x) (k0_pay19 x) (k0_pay20 x) (k0_pay25 x) (k0_pay26 x) (k0_pay27 x)) := fun l => by
  show _ = eight max min (chunk x r l) 2
  rw [← chunks_eq]
  rfl

theorem plane0_3 : IsPlane x r 0 3 (k0_pay44 (k0_pay15 x) (k0_pay18 x) (k0_pay19 x) (k0_pay20 x) (k0_pay22 x) (k0_pay24 x) (k0_pay25 x) (k0_pay26 x) (k0_pay27 x)) := fun l => by
  show _ = eight max min (chunk x r l) 3
  rw [← chunks_eq]
  rfl

theorem plane0_4 : IsPlane x r 0 4 (k0_pay45 (k0_pay15 x) (k0_pay18 x) (k0_pay19 x) (k0_pay20 x) (k0_pay22 x) (k0_pay24 x) (k0_pay25 x) (k0_pay26 x) (k0_pay27 x)) := fun l => by
  show _ = eight max min (chunk x r l) 4
  rw [← chunks_eq]
  rfl

theorem plane0_5 : IsPlane x r 0 5 (k0_pay46 (k0_pay18 x) (k0_pay19 x) (k0_pay20 x) (k0_pay22 x) (k0_pay24 x) (k0_pay26 x) (k0_pay27 x)) := fun l => by
  show _ = eight max min (chunk x r l) 5
  rw [← chunks_eq]
  rfl

theorem plane0_6 : IsPlane x r 0 6 (k0_pay47 (k0_pay18 x) (k0_pay19 x) (k0_pay20 x) (k0_pay22 x) (k0_pay24 x) (k0_pay26 x) (k0_pay27 x)) := fun l => by
  show _ = eight max min (chunk x r l) 6
  rw [← chunks_eq]
  rfl

theorem plane0_7 : IsPlane x r 0 7 (minimumf (k0_pay18 x) (k0_pay28 (k0_pay22 x) (k0_pay24 x))) := fun l => by
  show _ = eight max min (chunk x r l) 7
  rw [← chunks_eq]
  rfl

/-! ## The rounds -/

theorem head0 : IsHead x r 0 (k0_pay48 (k0_pay15 x) (k0_pay25 x)) := (plane0_0 x r).head _ _

theorem plane1_0 : IsPlane x r 1 0 (k0_pay50 (k0_pay15 x) (k0_pay19 x) (k0_pay20 x) (k0_pay25 x) (k0_pay26 x) (k0_pay27 x)) := (plane0_0 x r).next (head0 x r) (plane0_1 x r) (plane0_0 x r) _

theorem plane1_1 : IsPlane x r 1 1 (k0_pay51 (k0_pay15 x) (k0_pay19 x) (k0_pay20 x) (k0_pay25 x) (k0_pay26 x) (k0_pay27 x)) := (plane0_0 x r).next (head0 x r) (plane0_2 x r) (plane0_1 x r) _

theorem plane1_2 : IsPlane x r 1 2 (k0_pay52 (k0_pay15 x) (k0_pay18 x) (k0_pay19 x) (k0_pay20 x) (k0_pay22 x) (k0_pay24 x) (k0_pay25 x) (k0_pay26 x) (k0_pay27 x)) := (plane0_0 x r).next (head0 x r) (plane0_3 x r) (plane0_2 x r) _

theorem plane1_3 : IsPlane x r 1 3 (k0_pay53 (k0_pay15 x) (k0_pay18 x) (k0_pay19 x) (k0_pay20 x) (k0_pay22 x) (k0_pay24 x) (k0_pay25 x) (k0_pay26 x) (k0_pay27 x)) := (plane0_0 x r).next (head0 x r) (plane0_4 x r) (plane0_3 x r) _

theorem plane1_4 : IsPlane x r 1 4 (k0_pay54 (k0_pay15 x) (k0_pay18 x) (k0_pay19 x) (k0_pay20 x) (k0_pay22 x) (k0_pay24 x) (k0_pay25 x) (k0_pay26 x) (k0_pay27 x)) := (plane0_0 x r).next (head0 x r) (plane0_5 x r) (plane0_4 x r) _

theorem plane1_5 : IsPlane x r 1 5 (k0_pay55 (k0_pay15 x) (k0_pay18 x) (k0_pay19 x) (k0_pay20 x) (k0_pay22 x) (k0_pay24 x) (k0_pay25 x) (k0_pay26 x) (k0_pay27 x)) := (plane0_0 x r).next (head0 x r) (plane0_6 x r) (plane0_5 x r) _

theorem plane1_6 : IsPlane x r 1 6 (select (k0_pay49 (F := Ideal) (k0_pay15 x) (k0_pay25 x)) (minimumf (k0_pay18 x) (k0_pay28 (k0_pay22 x) (k0_pay24 x))) (k0_pay47 (k0_pay18 x) (k0_pay19 x) (k0_pay20 x) (k0_pay22 x) (k0_pay24 x) (k0_pay26 x) (k0_pay27 x))) := (plane0_0 x r).next (head0 x r) (plane0_7 x r) (plane0_6 x r) _

theorem head1 : IsHead x r 1 (k0_pay56 (k0_pay15 x) (k0_pay19 x) (k0_pay20 x) (k0_pay25 x) (k0_pay26 x) (k0_pay27 x)) := (plane1_0 x r).head _ _

theorem plane2_0 : IsPlane x r 2 0 (k0_pay58 (k0_pay15 x) (k0_pay19 x) (k0_pay20 x) (k0_pay25 x) (k0_pay26 x) (k0_pay27 x)) := (plane1_0 x r).next (head1 x r) (plane1_1 x r) (plane1_0 x r) _

theorem plane2_1 : IsPlane x r 2 1 (k0_pay59 (k0_pay15 x) (k0_pay18 x) (k0_pay19 x) (k0_pay20 x) (k0_pay22 x) (k0_pay24 x) (k0_pay25 x) (k0_pay26 x) (k0_pay27 x)) := (plane1_0 x r).next (head1 x r) (plane1_2 x r) (plane1_1 x r) _

theorem plane2_2 : IsPlane x r 2 2 (k0_pay60 (k0_pay15 x) (k0_pay18 x) (k0_pay19 x) (k0_pay20 x) (k0_pay22 x) (k0_pay24 x) (k0_pay25 x) (k0_pay26 x) (k0_pay27 x)) := (plane1_0 x r).next (head1 x r) (plane1_3 x r) (plane1_2 x r) _

theorem plane2_3 : IsPlane x r 2 3 (k0_pay61 (k0_pay15 x) (k0_pay18 x) (k0_pay19 x) (k0_pay20 x) (k0_pay22 x) (k0_pay24 x) (k0_pay25 x) (k0_pay26 x) (k0_pay27 x)) := (plane1_0 x r).next (head1 x r) (plane1_4 x r) (plane1_3 x r) _

theorem plane2_4 : IsPlane x r 2 4 (k0_pay62 (k0_pay15 x) (k0_pay18 x) (k0_pay19 x) (k0_pay20 x) (k0_pay22 x) (k0_pay24 x) (k0_pay25 x) (k0_pay26 x) (k0_pay27 x)) := (plane1_0 x r).next (head1 x r) (plane1_5 x r) (plane1_4 x r) _

theorem plane2_5 : IsPlane x r 2 5 (select (k0_pay57 (F := Ideal) (k0_pay15 x) (k0_pay19 x) (k0_pay20 x) (k0_pay25 x) (k0_pay26 x) (k0_pay27 x)) (select (k0_pay49 (F := Ideal) (k0_pay15 x) (k0_pay25 x)) (minimumf (k0_pay18 x) (k0_pay28 (k0_pay22 x) (k0_pay24 x))) (k0_pay47 (k0_pay18 x) (k0_pay19 x) (k0_pay20 x) (k0_pay22 x) (k0_pay24 x) (k0_pay26 x) (k0_pay27 x))) (k0_pay55 (k0_pay15 x) (k0_pay18 x) (k0_pay19 x) (k0_pay20 x) (k0_pay22 x) (k0_pay24 x) (k0_pay25 x) (k0_pay26 x) (k0_pay27 x))) := (plane1_0 x r).next (head1 x r) (plane1_6 x r) (plane1_5 x r) _

theorem head2 : IsHead x r 2 (k0_pay63 (k0_pay15 x) (k0_pay19 x) (k0_pay20 x) (k0_pay25 x) (k0_pay26 x) (k0_pay27 x)) := (plane2_0 x r).head _ _

theorem plane3_0 : IsPlane x r 3 0 (k0_pay65 (k0_pay15 x) (k0_pay18 x) (k0_pay19 x) (k0_pay20 x) (k0_pay22 x) (k0_pay24 x) (k0_pay25 x) (k0_pay26 x) (k0_pay27 x)) := (plane2_0 x r).next (head2 x r) (plane2_1 x r) (plane2_0 x r) _

theorem plane3_1 : IsPlane x r 3 1 (k0_pay66 (k0_pay15 x) (k0_pay18 x) (k0_pay19 x) (k0_pay20 x) (k0_pay22 x) (k0_pay24 x) (k0_pay25 x) (k0_pay26 x) (k0_pay27 x)) := (plane2_0 x r).next (head2 x r) (plane2_2 x r) (plane2_1 x r) _

theorem plane3_2 : IsPlane x r 3 2 (k0_pay67 (k0_pay15 x) (k0_pay18 x) (k0_pay19 x) (k0_pay20 x) (k0_pay22 x) (k0_pay24 x) (k0_pay25 x) (k0_pay26 x) (k0_pay27 x)) := (plane2_0 x r).next (head2 x r) (plane2_3 x r) (plane2_2 x r) _

theorem plane3_3 : IsPlane x r 3 3 (k0_pay68 (k0_pay15 x) (k0_pay18 x) (k0_pay19 x) (k0_pay20 x) (k0_pay22 x) (k0_pay24 x) (k0_pay25 x) (k0_pay26 x) (k0_pay27 x)) := (plane2_0 x r).next (head2 x r) (plane2_4 x r) (plane2_3 x r) _

theorem plane3_4 : IsPlane x r 3 4 (k0_pay69 (k0_pay15 x) (k0_pay18 x) (k0_pay19 x) (k0_pay20 x) (k0_pay22 x) (k0_pay24 x) (k0_pay25 x) (k0_pay26 x) (k0_pay27 x)) := (plane2_0 x r).next (head2 x r) (plane2_5 x r) (plane2_4 x r) _

theorem head3 : IsHead x r 3 (k0_pay70 (k0_pay15 x) (k0_pay18 x) (k0_pay19 x) (k0_pay20 x) (k0_pay22 x) (k0_pay24 x) (k0_pay25 x) (k0_pay26 x) (k0_pay27 x)) := (plane3_0 x r).head _ _

theorem plane4_0 : IsPlane x r 4 0 (k0_pay72 (k0_pay15 x) (k0_pay18 x) (k0_pay19 x) (k0_pay20 x) (k0_pay22 x) (k0_pay24 x) (k0_pay25 x) (k0_pay26 x) (k0_pay27 x)) := (plane3_0 x r).next (head3 x r) (plane3_1 x r) (plane3_0 x r) _

theorem plane4_1 : IsPlane x r 4 1 (select (k0_pay71 (F := Ideal) (k0_pay15 x) (k0_pay18 x) (k0_pay19 x) (k0_pay20 x) (k0_pay22 x) (k0_pay24 x) (k0_pay25 x) (k0_pay26 x) (k0_pay27 x)) (k0_pay67 (k0_pay15 x) (k0_pay18 x) (k0_pay19 x) (k0_pay20 x) (k0_pay22 x) (k0_pay24 x) (k0_pay25 x) (k0_pay26 x) (k0_pay27 x)) (k0_pay66 (k0_pay15 x) (k0_pay18 x) (k0_pay19 x) (k0_pay20 x) (k0_pay22 x) (k0_pay24 x) (k0_pay25 x) (k0_pay26 x) (k0_pay27 x))) := (plane3_0 x r).next (head3 x r) (plane3_2 x r) (plane3_1 x r) _

theorem plane4_2 : IsPlane x r 4 2 (select (k0_pay71 (F := Ideal) (k0_pay15 x) (k0_pay18 x) (k0_pay19 x) (k0_pay20 x) (k0_pay22 x) (k0_pay24 x) (k0_pay25 x) (k0_pay26 x) (k0_pay27 x)) (k0_pay68 (k0_pay15 x) (k0_pay18 x) (k0_pay19 x) (k0_pay20 x) (k0_pay22 x) (k0_pay24 x) (k0_pay25 x) (k0_pay26 x) (k0_pay27 x)) (k0_pay67 (k0_pay15 x) (k0_pay18 x) (k0_pay19 x) (k0_pay20 x) (k0_pay22 x) (k0_pay24 x) (k0_pay25 x) (k0_pay26 x) (k0_pay27 x))) := (plane3_0 x r).next (head3 x r) (plane3_3 x r) (plane3_2 x r) _

theorem plane4_3 : IsPlane x r 4 3 (select (k0_pay71 (F := Ideal) (k0_pay15 x) (k0_pay18 x) (k0_pay19 x) (k0_pay20 x) (k0_pay22 x) (k0_pay24 x) (k0_pay25 x) (k0_pay26 x) (k0_pay27 x)) (k0_pay69 (k0_pay15 x) (k0_pay18 x) (k0_pay19 x) (k0_pay20 x) (k0_pay22 x) (k0_pay24 x) (k0_pay25 x) (k0_pay26 x) (k0_pay27 x)) (k0_pay68 (k0_pay15 x) (k0_pay18 x) (k0_pay19 x) (k0_pay20 x) (k0_pay22 x) (k0_pay24 x) (k0_pay25 x) (k0_pay26 x) (k0_pay27 x))) := (plane3_0 x r).next (head3 x r) (plane3_4 x r) (plane3_3 x r) _

/-- The last four rounds, from what is left after four: the eight columns side by side. -/
theorem last_apply (v66 v77 v87 v96 : FVec Ideal S256x1 .f32) (v91 v92 v93 v94 v99 : FVec Ideal S256x128 .f32) (v98 : IVec S256x128 1)
    (h0 : IsHead x r 0 v66) (h1 : IsHead x r 1 v77) (h2 : IsHead x r 2 v87) (h3 : IsHead x r 3 v96)
    (p0 : IsPlane x r 4 0 v99) (p1 : IsPlane x r 4 1 (select v98 v92 v91)) (p2 : IsPlane x r 4 2 (select v98 v93 v92))
    (p3 : IsPlane x r 4 3 (select v98 v94 v93)) (k : Fin 8) :
    k0_pay73 v66 v77 v87 v91 v92 v93 v94 v96 v98 v99 (ix2 r k) = topHead (lanes (lane x r) k.val) := by
  have h4 := p0.head shapeCasts_S256_S256x1 reduces_S256x128_S256
  have q0 := p0.next h4 p1 p0 broadcasts_S256x1_S256x128
  have q1 := p0.next h4 p2 p1 broadcasts_S256x1_S256x128
  have q2 := p0.next h4 p3 p2 broadcasts_S256x1_S256x128
  have h5 := q0.head shapeCasts_S256_S256x1 reduces_S256x128_S256
  have s0 := q0.next h5 q1 q0 broadcasts_S256x1_S256x128
  have s1 := q0.next h5 q2 q1 broadcasts_S256x1_S256x128
  have h6 := s0.head shapeCasts_S256_S256x1 reduces_S256x128_S256
  have t0 := s0.next h6 s1 s0 broadcasts_S256x1_S256x128
  have h7 := t0.head shapeCasts_S256_S256x1 reduces_S256x128_S256
  unfold IsHead at h0 h1 h2 h3 h4 h5 h6 h7
  unfold k0_pay73
  rw [shapeCast_self, columns_apply, h0, h1, h2, h3, h4, h5, h6, h7]
  fin_cases k <;> rfl

/-- What the kernel keeps of a block: in row `r`, what the rounds yield. -/
theorem topOf_apply (k : Fin 8) : topOf (F := Ideal) x (ix2 r k) = topHead (lanes (lane x r) k.val) :=
  last_apply x r _ _ _ _ _ _ _ _ _ _ (head0 x r) (head1 x r) (head2 x r) (head3 x r) (plane4_0 x r) (plane4_1 x r)
    (plane4_2 x r) (plane4_3 x r) k

end Cert.KernelIdeal.Topk

end

end
-- ==== Proof.Value.Merge.lean ====
/- The kernel's second phase: two lists of eight columns merged, row by row. -/
module

public import proofs.«01_k».proof.Proof.Value.Ops

@[expose] public section

set_option maxRecDepth 16384

noncomputable section

namespace Cert.KernelIdeal.Topk

open Cert.KernelIdeal Cert.KernelIdeal.Gen
open Idealize.ShloMosaic
open Cert.Topk

variable (p q : FVec Ideal S256x8 .f32) (r : Fin 256)

/-- The larger of entry `i` of one list and entry `7 - i` of the other. -/
theorem cross_apply (i : Fin 8) :
    k0_pay74 (F := Ideal) p q (ix2 r i) = max (p (ix2 r i)) (q (ix2 r i.rev)) := by
  unfold k0_pay74
  rw [columns_apply]
  fin_cases i <;> (pointwise; rfl)

theorem upper_apply (i : Fin 4) : k0_pay75 (F := Ideal) p q (ix2 r i)
    = max (k0_pay74 (F := Ideal) p q (ix2 r (i.castLE (by decide)))) (k0_pay74 (F := Ideal) p q (ix2 r (i.natAdd 4))) := by
  unfold k0_pay75; pointwise; rfl

theorem lower_apply (i : Fin 4) : k0_pay76 (F := Ideal) p q (ix2 r i)
    = min (k0_pay74 (F := Ideal) p q (ix2 r (i.castLE (by decide)))) (k0_pay74 (F := Ideal) p q (ix2 r (i.natAdd 4))) := by
  unfold k0_pay76; pointwise; rfl

theorem upperUpper_apply (i : Fin 2) : k0_pay77 (F := Ideal) p q (ix2 r i)
    = max (k0_pay75 (F := Ideal) p q (ix2 r (i.castLE (by decide)))) (k0_pay75 (F := Ideal) p q (ix2 r (i.natAdd 2))) := by
  unfold k0_pay77; pointwise; rfl

theorem upperLower_apply (i : Fin 2) : k0_pay78 (F := Ideal) p q (ix2 r i)
    = min (k0_pay75 (F := Ideal) p q (ix2 r (i.castLE (by decide)))) (k0_pay75 (F := Ideal) p q (ix2 r (i.natAdd 2))) := by
  unfold k0_pay78; pointwise; rfl

theorem lowerUpper_apply (i : Fin 2) : k0_pay79 (F := Ideal) p q (ix2 r i)
    = max (k0_pay76 (F := Ideal) p q (ix2 r (i.castLE (by decide)))) (k0_pay76 (F := Ideal) p q (ix2 r (i.natAdd 2))) := by
  unfold k0_pay79; pointwise; rfl

theorem lowerLower_apply (i : Fin 2) : k0_pay80 (F := Ideal) p q (ix2 r i)
    = min (k0_pay76 (F := Ideal) p q (ix2 r (i.castLE (by decide)))) (k0_pay76 (F := Ideal) p q (ix2 r (i.natAdd 2))) := by
  unfold k0_pay80; pointwise; rfl

/-- The larger entry of a pair of columns. -/
theorem pairMax_apply (v : FVec Ideal S256x2 .f32) (h : S256x2.Slices ![0, 0] S256x1) (h' : S256x2.Slices ![0, 1] S256x1) :
    (maximumf (extractStridedSlice S256x1 ![0, 0] v h) (extractStridedSlice S256x1 ![0, 1] v h') : FVec Ideal S256x1 .f32) (ix2 r 0)
      = max (v (ix2 r 0)) (v (ix2 r 1)) := by
  pointwise

/-- The smaller entry of a pair of columns. -/
theorem pairMin_apply (v : FVec Ideal S256x2 .f32) (h : S256x2.Slices ![0, 0] S256x1) (h' : S256x2.Slices ![0, 1] S256x1) :
    (minimumf (extractStridedSlice S256x1 ![0, 0] v h) (extractStridedSlice S256x1 ![0, 1] v h') : FVec Ideal S256x1 .f32) (ix2 r 0)
      = min (v (ix2 r 0)) (v (ix2 r 1)) := by
  pointwise

/-- What the kernel makes of two lists: in row `r`, the merging network on the two rows. -/
theorem mergeOf_apply (j : Fin 8) : mergeOf (F := Ideal) p q (ix2 r j)
    = merge max min (fun i => p (ix2 r i)) (fun i => q (ix2 r i)) j := by
  unfold mergeOf k0_pay1 k0_pay81 k0_pay82 k0_pay83 k0_pay84
  rw [columns_apply]
  simp only [pairMax_apply, pairMin_apply, upperUpper_apply, upperLower_apply, lowerUpper_apply, lowerLower_apply,
    upper_apply, lower_apply, cross_apply]
  fin_cases j <;> rfl

end Cert.KernelIdeal.Topk

end

end
-- ==== Proof.Value.Sorted.lean ====
/- A row put in ascending order by the comparator of a host sort, at the extended reals: the comparator is the order
   of the extended reals, and the row's entries read in the sorted order ascend. -/
module

public import Idealize.ShloMosaic.Lib.SortFacts
public import Idealize.ShloMosaic.PureOps.Ideal
public import Idealize.ShloMosaic.Lib.Pointwise
public import proofs.«01_k».proof.Proof.Math.Kth

@[expose] public section

noncomputable section

namespace Cert.Topk

open Idealize.ShloMosaic

/-- The comparator's canonical form of a value is the value: an extended real equal to zero is zero, and none differs
    from itself. -/
theorem canonical (v c : Ideal .f32) :
    Scalar.select (FloatOps.cmpf .une v v) c
      (Scalar.select (FloatOps.cmpf .oeq v (FloatOps.ofBits .f32 0x00000000#32)) (FloatOps.ofBits .f32 0x00000000#32) v) = v := by
  have h1 : FloatOps.cmpf .une v v = 0#1 := by
    show BitVec.ofBool _ = _
    simp
  have h2 : Scalar.select (FloatOps.cmpf .oeq v (FloatOps.ofBits .f32 0x00000000#32)) (FloatOps.ofBits .f32 0x00000000#32) v = v := by
    by_cases e : v = FloatOps.ofBits .f32 0x00000000#32
    · rw [← e]; unfold Scalar.select; split <;> rfl
    · have : FloatOps.cmpf .oeq v (FloatOps.ofBits .f32 0x00000000#32) = 0#1 := by
        show BitVec.ofBool _ = BitVec.ofBool false
        exact congrArg BitVec.ofBool (decide_eq_false e)
      rw [this]; rfl
  rw [h1, h2]; rfl

/-- The total order's comparison is the extended reals' own. -/
theorem totalLt (v w : Ideal .f32) : (FloatOps.cmpfTotal .lt v w == 1#1) = decide ((v : EReal) < w) := by
  show (BitVec.ofBool (decide ((v : EReal) < w)) == 1#1) = _
  by_cases h : (v : EReal) < w <;> simp [h]

variable {n : ℕ} (f : Fin n → EReal)

/-- The places of a row in the order a stable ascending sort leaves them. -/
def places : Fin n ≃ Fin n :=
  Equiv.ofBijective (sortedFrom fun k k' => decide (f k < f k')) ⟨sortedFrom_injective _, sortedFrom_surjective _⟩

/-- Read in that order the row ascends. -/
theorem places_mono (i j : Fin n) (h : i < j) : f (places f i) ≤ f (places f j) := by
  have := sortedFrom_noInversion (fun k k' => decide (f k < f k')) (fun k k' => decide (f k < f k'))
    (fun a b hab => by simp only [decide_eq_true_eq, decide_eq_false_iff_not, not_lt] at hab ⊢; exact hab.le)
    (fun _ _ hab => hab)
    (fun a b c hab hbc => by
      simp only [decide_eq_false_iff_not, not_lt] at hab hbc ⊢; exact hbc.trans hab) i j h
  simp only [decide_eq_false_iff_not, not_lt] at this
  exact this

/-- A sort along the rows of a two-dimensional array, read at a place: the sorted operand at the sorted place, where `f`
    is the row's key. -/
theorem sortBy_apply {R C : ℕ} {ι α : Type} (cmp : ι → ι → BitVec 1) (rows : (⟨2, ![R, C]⟩ : Shape).Idx → ι)
    (y : (⟨2, ![R, C]⟩ : Shape).Idx → α) (r : Fin R) (f : Fin C → EReal)
    (h : ∀ k k', (cmp (rows (ix2 r k)) (rows (ix2 r k')) == 1#1) = decide (f k < f k')) (k : Fin C) :
    Host.sortBy ⟨2, ![R, C]⟩ 1 cmp rows y (ix2 r k) = y (ix2 r (places f k)) := by
  have ha : ∀ q : Fin C, (ix2 r k : (⟨2, ![R, C]⟩ : Shape).Idx).along 1 q = ix2 r q := fun q => by
    funext a; fin_cases a <;> rfl
  have e : (fun q q' : Fin C => cmp (rows ((ix2 r k : (⟨2, ![R, C]⟩ : Shape).Idx).along 1 q))
      (rows ((ix2 r k : (⟨2, ![R, C]⟩ : Shape).Idx).along 1 q')) == 1#1) = fun q q' => decide (f q < f q') :=
    funext fun q => funext fun q' =>
      (congrArg₂ (fun a b => cmp (rows a) (rows b) == 1#1) (ha q) (ha q')).trans (h q q')
  exact (congrArg y (ha _)).trans (congrArg (fun B => y (ix2 r (sortedFrom B k))) e)

end Cert.Topk

end

end
-- ==== Proof.Value.Reference.lean ====
/- What the reference computes: in row `r` its entry `k` is the `k`-th largest entry of the row. -/
module

public import proofs.«01_k».proof.Proof.Gen.ReferenceIdeal.Run
public import proofs.«01_k».proof.Proof.Value.Sorted
public import Idealize.ShloMosaic.Lib.Pointwise
public import Idealize.ShloMosaic.Lib.ReduceAll
public import Idealize.ShloMosaic.Lib.WordCmp

@[expose] public section

set_option maxRecDepth 16384

noncomputable section

namespace Cert.ReferenceIdeal.Topk

open Cert.ReferenceIdeal Cert.ReferenceIdeal.Gen
open Idealize.ShloMosaic
open Cert.Topk

/-- The negated row, which the reference sorts in ascending order. -/
def negRow (x : FVec Ideal S256x2048 .f32) (r : Fin 256) (i : Fin 2048) : EReal := -(x (ix2 r i))

/-- The places of the row's entries in descending order, as 32-bit words. -/
def order (x : FVec Ideal S256x2048 .f32) : IVec S256x8 32 :=
  extractStridedSlice S256x8 ![0, 0] ((Host.sort2 S256x2048 1 comparator_f32_i32_d1 (Host.negf x) (iotaInDim S256x2048 32 1)).2)
    slices_S256x2048_S256x8_0_0

/-- The places as the reference hands them to its gather: a negative one counted from the row's end. -/
def wrapped (o : IVec S256x8 32) : IVec S256x8x1 32 :=
  shapeCast S256x8x1 (select (cmpi .slt o (broadcastInDim S256x8 ![] bcast_S_S256x8 (constantI S_ 32 0#32)))
    (addi o (broadcastInDim S256x8 ![] bcast_S_S256x8 (constantI S_ 32 2048#32))) o) shapeCasts_S256x8_S256x8x1

/-- Whether each place lies in the row. -/
def inside (i : IVec S256x8x1 32) : IVec S256x8 1 :=
  Host.reduce IntOp.andi (andi (cmpi .sge i (broadcastInDim S256x8x1 ![] bcast_S_S256x8x1 (constantI S_ 32 0#32)))
    (cmpi .sle i (broadcastInDim S256x8x1 ![0, 1, 2] bcast_S1x1x1_S256x8x1_0_1_2 (broadcastInDim S1x1x1 ![2] bcast_S1_S1x1x1_2 (constantI S1 32 2047#32)))))
    (constantI S_ 1 1#1) reducesTo_S256x8x1_S256x8_d2 h_S_

/-- The reference's result. -/
def result (x : FVec Ideal S256x2048 .f32) : FVec Ideal S256x8 .f32 :=
  select (inside (wrapped (order x))) (Host.gather gather_S256x2048_S256x8x1_S256x8_n_1_0_0_1_2_11 x (wrapped (order x)))
    (broadcastInDim S256x8 ![] bcast_S_S256x8 (constant S_ .f32 0x7FC00000#32))

/-- The reference's comparator is the order of the keys. -/
theorem comparator_eq (l r : Ideal .f32 × BitVec 32) :
    (comparator_f32_i32_d1 l r == 1#1) = decide ((l.1 : EReal) < r.1) := by
  unfold comparator_f32_i32_d1
  dsimp only
  rw [canonical, canonical, totalLt]

/-- Entry `k` of the sorted places. -/
theorem order_apply (x : FVec Ideal S256x2048 .f32) (r : Fin 256) (k : Fin 8) :
    order x (ix2 r k) = BitVec.ofNat 32 (places (negRow x r) (k.castLE (by decide))).val := by
  have e : order x (ix2 r k) = (Host.sort2 S256x2048 1 comparator_f32_i32_d1 (Host.negf x) (iotaInDim S256x2048 32 1)).2
      (ix2 r (k.castLE (by decide))) := by
    unfold order
    generalize (Host.sort2 S256x2048 1 comparator_f32_i32_d1 (Host.negf x) (iotaInDim S256x2048 32 1)).2 = v
    pointwise
    rfl
  rw [e, Host.sort2_eq_sortBy]
  exact (sortBy_apply comparator_f32_i32_d1 (fun j => (Host.negf x j, iotaInDim S256x2048 32 1 j)) (iotaInDim S256x2048 32 1) r
    (negRow x r) (fun _ _ => comparator_eq _ _) (k.castLE (by decide))).trans rfl

/-- A place of a row is a small word, and not negative. -/
theorem wrapped_apply (o : IVec S256x8 32) (r : Fin 256) (k : Fin 8) (p : Fin 2048) (h : o (ix2 r k) = BitVec.ofNat 32 p.val) :
    wrapped o (ix3 r k 0) = BitVec.ofNat 32 p.val := by
  have hp := p.isLt
  unfold wrapped
  pointwise
  rw [h, show (0#32 : BitVec 32) = BitVec.ofNat 32 0 from rfl, WordCmp.cmpi_slt_ofNat (by omega) (by omega), decide_eq_false (by omega)]
  rfl

/-- A place of a row lies in the row. -/
theorem inside_apply (i : IVec S256x8x1 32) (r : Fin 256) (k : Fin 8) (p : Fin 2048) (h : i (ix3 r k 0) = BitVec.ofNat 32 p.val) :
    inside i (ix2 r k) = 1#1 := by
  have hp := p.isLt
  unfold inside
  pointwise
  have e : ∀ q : Fin 1, IntOp.andi (IntOp.cmpi .sge (i (ix3 r k q)) 0#32) (IntOp.cmpi .sle (i (ix3 r k q)) 2047#32) = 1#1 := fun q => by
    obtain rfl : q = 0 := Subsingleton.elim _ _
    rw [h, show (0#32 : BitVec 32) = BitVec.ofNat 32 0 from rfl, show (2047#32 : BitVec 32) = BitVec.ofNat 32 2047 from rfl,
      WordCmp.cmpi_sge_ofNat (by omega) (by omega), WordCmp.cmpi_sle_ofNat (by omega) (by omega), decide_eq_true (by omega),
      decide_eq_true (by omega)]
    rfl
  rw [show (fun q : Fin 1 => IntOp.andi (IntOp.cmpi .sge (i (ix3 r k q)) 0#32) (IntOp.cmpi .sle (i (ix3 r k q)) 2047#32))
    = fun _ => 1#1 from funext e]
  rfl

/-- The gather reads the row at the place handed to it. -/
theorem gather_apply (x : FVec Ideal S256x2048 .f32) (i : IVec S256x8x1 32) (r : Fin 256) (k : Fin 8) (p : Fin 2048)
    (h : i (ix3 r k 0) = BitVec.ofNat 32 p.val) :
    Host.gather gather_S256x2048_S256x8x1_S256x8_n_1_0_0_1_2_11 x i (ix2 r k) = x (ix2 r p) := by
  have hp := p.isLt
  unfold Host.gather
  congr 1
  funext a
  refine Fin.ext ?_
  set d := gather_S256x2048_S256x8x1_S256x8_n_1_0_0_1_2_11 with hd
  show d.start (ix2 r k) i a + d.batchCoord (ix2 r k) a + d.offCoord (ix2 r k) a = _
  have hoff : d.offCoord (ix2 r k) a = 0 := d.offCoord_eq_zero _ _ fun hk => by
    have := (GatherDims.mem_sKept d a).mp hk
    fin_cases a
    · exact this.2 (List.mem_singleton.mpr rfl)
    · exact this.1 (List.mem_singleton.mpr rfl)
  rw [hoff, Nat.add_zero]
  fin_cases a
  · show d.start (ix2 r k) i 0 + d.batchCoord (ix2 r k) 0 = r.val
    rw [d.start_batching _ _ _ (List.mem_singleton.mpr rfl), Nat.zero_add]
    unfold GatherDims.batchCoord
    rw [dif_pos (show (0 : Fin 2) ∈ d.operandBatchingDims from List.mem_singleton.mpr rfl)]
    rfl
  · show d.start (ix2 r k) i 1 + d.batchCoord (ix2 r k) 1 = p.val
    rw [d.batchCoord_eq_zero _ _ (fun hk => absurd (List.mem_singleton.mp hk) (by decide)), Nat.add_zero]
    unfold GatherDims.start
    rw [dif_pos (show (1 : Fin 2) ∈ d.startIndexMap from List.mem_singleton.mpr rfl)]
    have hsi : d.siIdx (ix2 r k) ⟨List.idxOf (1 : Fin 2) d.startIndexMap,
        List.idxOf_lt_length_iff.2 (List.mem_singleton.mpr rfl)⟩ = ix3 r k 0 := by
      funext b; fin_cases b <;> rfl
    rw [hsi, h]
    show min (BitVec.ofNat 32 p.val).toInt.toNat (2048 - 1) = p.val
    have e : (BitVec.ofNat 32 p.val).toInt = p.val := by
      rw [BitVec.toInt_eq_toNat_of_lt] <;> rw [BitVec.toNat_ofNat, Nat.mod_eq_of_lt (by omega)]
      omega
    rw [e]
    omega

/-- Entry `k` of row `r` of the result is the `k`-th largest entry of the row. -/
theorem kth_result (x : FVec Ideal S256x2048 .f32) (r : Fin 256) (k : Fin 8) :
    Kth (fun i : Fin 2048 => (x (ix2 r i) : EReal)) k.val (result x (ix2 r k)) := by
  have h := wrapped_apply (order x) r k _ (order_apply x r k)
  have e : result x (ix2 r k) = x (ix2 r (places (negRow x r) (k.castLE (by decide)))) := by
    show Scalar.select (inside (wrapped (order x)) (ix2 r k))
      (Host.gather gather_S256x2048_S256x8x1_S256x8_n_1_0_0_1_2_11 x (wrapped (order x)) (ix2 r k)) _ = _
    rw [inside_apply _ r k _ h, gather_apply x _ r k _ h]
    rfl
  rw [e]
  refine kth_of_antitone (places (negRow x r)) (fun i : Fin 2048 => (x (ix2 r i) : EReal)) (fun i j hij => ?_)
    (k.castLE (by decide))
  exact EReal.neg_le_neg_iff.mp (places_mono (negRow x r) i j hij)

end Cert.ReferenceIdeal.Topk

end

end
-- ==== Proof.Value.Untied.lean ====
/- What the precondition says of a block: read in ascending order, the last eight entries of every row are pairwise
   different. -/
module

public import proofs.«01_k».proof.Proof.Gen.Pre_untied_KernelIdeal
public import proofs.«01_k».proof.Proof.Value.Sorted
public import Idealize.ShloMosaic.Lib.Pointwise
public import Idealize.ShloMosaic.Lib.ReduceAll

@[expose] public section

set_option maxRecDepth 16384

noncomputable section

namespace Cert.Pre_untied_KernelIdeal.Topk

open Cert.Pre_untied_KernelIdeal Cert.Pre_untied_KernelIdeal.Gen
open Idealize.ShloMosaic
open Cert.Topk

/-- A row of the block. -/
def row (x : FVec Ideal S256x1024 .f32) (r : Fin 256) (i : Fin 1024) : EReal := x (ix2 r i)

/-- The precondition's comparator is the order of the entries. -/
theorem comparator_eq (v w : Ideal .f32) : (comparator_f32_d1 v w == 1#1) = decide ((v : EReal) < w) := by
  unfold comparator_f32_d1
  dsimp only
  rw [canonical, canonical, totalLt]

/-- The sorted block, read at a place. -/
theorem sorted_apply (x : FVec Ideal S256x1024 .f32) (r : Fin 256) (i : Fin 1024) :
    fn_sort (F := Ideal) x (ix2 r i) = x (ix2 r (places (row x r) i)) := by
  unfold fn_sort
  dsimp only
  rw [Host.sort_eq_sortBy]
  exact sortBy_apply comparator_f32_d1 x x r (row x r) (fun _ _ => comparator_eq _ _) i

/-- Of the last eight entries in ascending order each is less than the next. -/
theorem strict (x : FVec Ideal S256x1024 .f32) (h : fn (F := Ideal) x = fun _ => 1#1) (r : Fin 256) (q : Fin 7) :
    row x r (places (row x r) ⟨1016 + q.val, by omega⟩) < row x r (places (row x r) ⟨1017 + q.val, by omega⟩) := by
  unfold fn at h
  dsimp only at h
  have hs : Subsingleton S_.Idx := ⟨fun a b => funext fun i => i.elim0⟩
  have e := Host.reduce_andi_all _ _ _ _ (fun a => a.elim0) (congrFun h fun a => a.elim0) (ix2 r q)
  have e' : (FloatOps.cmpf .ogt (fn_sort (F := Ideal) x (ix2 r ⟨1017 + q.val, by omega⟩))
      (fn_sort (F := Ideal) x (ix2 r ⟨1016 + q.val, by omega⟩)) : BitVec 1) = 1#1 := by
    rw [← e]
    generalize fn_sort (F := Ideal) x = v
    pointwise
  rw [sorted_apply, sorted_apply] at e'
  have e'' : BitVec.ofBool (decide (row x r (places (row x r) ⟨1016 + q.val, by omega⟩)
      < row x r (places (row x r) ⟨1017 + q.val, by omega⟩))) = 1#1 := e'
  by_contra hn
  rw [decide_eq_false hn] at e''
  exact absurd e'' (by decide)

end Cert.Pre_untied_KernelIdeal.Topk

end

end
-- ==== Proof.Value.Equation.lean ====
/- The equation between the kernel and the reference: what the kernel keeps of a block is the block's eight largest
   entries of every row, and two blocks' merged are the whole row's. -/
module

public import proofs.«01_k».proof.Proof.Value.Block
public import proofs.«01_k».proof.Proof.Value.Merge
public import proofs.«01_k».proof.Proof.Value.Reference
public import proofs.«01_k».proof.Proof.Value.Untied
public import Idealize.ShloMosaic.Lib.Layout

@[expose] public section

set_option maxRecDepth 16384

noncomputable section

namespace Cert.Topk

open Idealize.ShloMosaic
open Cert.KernelIdeal.Topk (lane chunk topOf mergeOf topOf_apply mergeOf_apply mate)
open Cert.Pre_untied_KernelIdeal.Topk (row strict)

/-- The ordering network changes no count. -/
theorem reach_eight (c : Fin 8 → EReal) (t : EReal) : reach (fun j => eight max min c j) t = reach c t := by
  have hb : reach c t ≤ 8 := (Finset.card_le_univ _).trans (by simp)
  have e : reach (fun j => eight max min c j) t = (Finset.univ.filter fun j : Fin 8 => j.val < reach c t).card :=
    congrArg Finset.card (Finset.filter_congr fun j _ => kth_eight c j t)
  rw [e]
  generalize reach c t = m at hb ⊢
  interval_cases m <;> decide

/-- A lane descends. -/
theorem lane_anti (x : FVec Ideal Cert.KernelIdeal.S256x1024 .f32) (r : Fin 256) (l : Fin 128) (j : ℕ) (hj : j < 7) :
    lane x r (j + 1) l ≤ lane x r j l := by
  have h1 := (kth_eight (chunk x r l) (Fin.ofNat 8 (j + 1)) (lane x r (j + 1) l)).mp le_rfl
  refine (kth_eight (chunk x r l) (Fin.ofNat 8 j) (lane x r (j + 1) l)).mpr ?_
  rw [Fin.val_ofNat, Nat.mod_eq_of_lt (by omega)] at h1 ⊢
  omega

/-- The lanes hold the row's entries. -/
theorem reach_lanes (x : FVec Ideal Cert.KernelIdeal.S256x1024 .f32) (r : Fin 256) (t : EReal) :
    reach (entries (lane x r)) t = reach (row x r) t := by
  have e1 : reach (entries (lane x r)) t = ∑ l, reach (chunk x r l) t := by
    rw [reach_prod]
    refine Finset.sum_congr rfl fun l _ => ?_
    rw [← reach_eight (chunk x r l)]
    refine congrArg (fun f => reach f t) (funext fun j => ?_)
    show eight max min (chunk x r l) (Fin.ofNat 8 j.val) = _
    congr 1
    exact Fin.ext (by rw [Fin.val_ofNat, Nat.mod_eq_of_lt j.isLt])
  have e2 := reach_equiv (((Equiv.prodComm (Fin 128) (Fin 8)).trans finProdFinEquiv).trans (finCongr (show 8 * 128 = 1024 from rfl)))
    (row x r) t
  rw [e1, ← e2, reach_prod]
  refine Finset.sum_congr rfl fun l _ => congrArg (fun f => reach f t) (funext fun i => ?_)
  show x _ = x _
  congr 2
  exact Fin.ext (Nat.add_comm _ _)

/-- The `k`-th largest entry of a family, read off its ascending order. -/
def fromTop {n : ℕ} (f : Fin n → EReal) (k : Fin n) : EReal := f (places f k.rev)

/-- It is the `k`-th largest. -/
theorem kth_fromTop {n : ℕ} (f : Fin n → EReal) (k : Fin n) : Kth f k.val (fromTop f k) :=
  kth_of_antitone (Fin.revPerm.trans (places f)) f
    (fun i j hij => places_mono f j.rev i.rev (Fin.rev_lt_rev.mpr hij)) k

/-- Of an untied block's row the first eight entries from the top strictly descend. -/
theorem fromTop_lt (x : FVec Ideal Cert.KernelIdeal.S256x1024 .f32)
    (h : Cert.Pre_untied_KernelIdeal.fn (F := Ideal) x = fun _ => 1#1) (r : Fin 256) (k : ℕ) (hk : k < 7) :
    fromTop (row x r) (Fin.ofNat 1024 (k + 1)) < fromTop (row x r) (Fin.ofNat 1024 k) := by
  have := strict x h r ⟨6 - k, by omega⟩
  have ea : (Fin.ofNat 1024 (k + 1)).rev = ⟨1016 + (6 - k), by omega⟩ :=
    Fin.ext (by rw [Fin.val_rev, Fin.val_ofNat, Nat.mod_eq_of_lt (by omega)]; show _ = 1016 + (6 - k); omega)
  have eb : (Fin.ofNat 1024 k).rev = ⟨1017 + (6 - k), by omega⟩ :=
    Fin.ext (by rw [Fin.val_rev, Fin.val_ofNat, Nat.mod_eq_of_lt (by omega)]; show _ = 1017 + (6 - k); omega)
  unfold fromTop
  rw [ea, eb]
  exact this

/-- What the kernel keeps of an untied block: in row `r`, entry `k` is the row's `k`-th largest. -/
theorem kth_topOf (x : FVec Ideal Cert.KernelIdeal.S256x1024 .f32)
    (h : Cert.Pre_untied_KernelIdeal.fn (F := Ideal) x = fun _ => 1#1) (r : Fin 256) (k : Fin 8) :
    Kth (row x r) k.val (topOf (F := Ideal) x (ix2 r k)) := by
  have hs : ∀ k, k < 8 → Kth (row x r) k (fromTop (row x r) (Fin.ofNat 1024 k)) := by
    intro k hk
    have := kth_fromTop (row x r) (Fin.ofNat 1024 k)
    rw [Fin.val_ofNat, Nat.mod_eq_of_lt (by omega)] at this
    exact this
  rw [topOf_apply]
  exact Kth.of_reach (reach_lanes x r) (rounds_kth (lane_anti x r) (fun k => fromTop (row x r) (Fin.ofNat 1024 k))
    (fun k hk => Kth.of_reach (fun t => (reach_lanes x r t).symm) (hs k hk)) (fromTop_lt x h r) k.val k.isLt)

/-- Block `b` of two along the columns of the whole array. -/
def half (x : FVec Ideal Cert.ReferenceIdeal.S256x2048 .f32) (b : Fin 2) : FVec Ideal Cert.KernelIdeal.S256x1024 .f32 :=
  fun i => x (ix2 (i 0) ⟨1024 * b.val + (i 1).val, by have := (i 1).isLt; have h : (i 1).val < 1024 := this; omega⟩)

/-- The two blocks' rows hold the whole row's entries. -/
theorem reach_halves (x : FVec Ideal Cert.ReferenceIdeal.S256x2048 .f32) (r : Fin 256) (t : EReal) :
    reach (Sum.elim (row (half x 0) r) (row (half x 1) r)) t = reach (fun i : Fin 2048 => (x (ix2 r i) : EReal)) t := by
  rw [← reach_equiv ((finSumFinEquiv (m := 1024) (n := 1024)).trans (finCongr (show 1024 + 1024 = 2048 from rfl)))
    (fun i : Fin 2048 => (x (ix2 r i) : EReal)) t]
  refine congrArg (fun f => reach f t) (funext fun a => ?_)
  rcases a with i | i
  · show x _ = x _
    congr 2
    exact Fin.ext (by show 1024 * 0 + i.val = i.val; omega)
  · show x _ = x _
    congr 2

/-- Merging what the kernel keeps of the two blocks, in either order, gives the reference's result. -/
theorem merge_halves (x : FVec Ideal Cert.ReferenceIdeal.S256x2048 .f32) (b b' : Fin 2) (hne : b ≠ b')
    (h : ∀ b, Cert.Pre_untied_KernelIdeal.fn (F := Ideal) (half x b) = fun _ => 1#1) :
    mergeOf (F := Ideal) (topOf (F := Ideal) (half x b)) (topOf (F := Ideal) (half x b')) = Cert.ReferenceIdeal.Topk.result x := by
  funext i
  obtain ⟨r, j, rfl⟩ : ∃ r j, i = ix2 r j := ⟨i 0, i 1, by funext a; fin_cases a <;> rfl⟩
  rw [mergeOf_apply]
  have hk := kth_merge (row (half x b) r) (row (half x b') r) _ _ (kth_topOf _ (h b) r) (kth_topOf _ (h b') r) j
  refine Kth.unique (Kth.of_reach (fun t => ?_) hk) (Cert.ReferenceIdeal.Topk.kth_result x r j)
  rw [← reach_halves]
  fin_cases b <;> fin_cases b'
  · exact absurd rfl hne
  · rfl
  · exact reach_sum_comm _ _ t
  · exact absurd rfl hne

/-- The block of the whole array that device `c` of the mesh holds. -/
theorem block_eq (x : FVec Ideal Cert.ReferenceIdeal.S256x2048 .f32) (c : Dev Cert.KernelIdeal.nD) :
    Layout.blockN ⟨2, ![256, 1024]⟩ ⟨2, ![256, 2048]⟩ (Layout.meshBlock [2, 4, 4] ![[], [0]] c) x
      = half x ⟨c.val / 16, by have : c.val < 32 := c.isLt; omega⟩ := by
  funext i
  rw [Layout.blockN_apply]
  show x _ = x _
  congr 1
  funext a
  refine Fin.ext ?_
  rw [Layout.TilesN.idx_val, Layout.meshBlock_val]
  fin_cases a
  · show Layout.meshLin [2, 4, 4] c.val [] * 256 + (i 0).val = (i 0).val
    simp [Layout.meshLin]
  · show Layout.meshLin [2, 4, 4] c.val [0] * 1024 + (i 1).val = 1024 * (c.val / 16) + (i 1).val
    have hc : c.val < 32 := c.isLt
    have : Layout.meshLin [2, 4, 4] c.val [0] = c.val / 16 := by
      generalize c.val = n at hc ⊢
      interval_cases n <;> rfl
    rw [this, Nat.mul_comm]

/-- Partners hold different blocks. -/
theorem block_ne (c : Dev Cert.KernelIdeal.nD) : c.val / 16 ≠ (mate c).val / 16 := by
  revert c; decide

/-- When the devices hold the untied blocks of the whole array, each one's merged candidates are the reference's
    result. -/
theorem merge_blocks (a : Dev Cert.KernelIdeal.nD → FVec Ideal Cert.KernelIdeal.S256x1024 .f32)
    (x : FVec Ideal Cert.ReferenceIdeal.S256x2048 .f32)
    (ha : ∀ c, a c = Layout.blockN ⟨2, ![256, 1024]⟩ ⟨2, ![256, 2048]⟩ (Layout.meshBlock [2, 4, 4] ![[], [0]] c) x)
    (hu : ∀ c, Cert.Pre_untied_KernelIdeal.fn (F := Ideal) (a c) = fun _ => 1#1) (c : Dev Cert.KernelIdeal.nD) :
    mergeOf (F := Ideal) (topOf (F := Ideal) (a c)) (topOf (F := Ideal) (a (mate c))) = Cert.ReferenceIdeal.Topk.result x := by
  have hb := fun c => (ha c).trans (block_eq x c)
  rw [hb c, hb (mate c)]
  refine merge_halves x _ _ (fun e => block_ne c (congrArg Fin.val e)) fun b => ?_
  have h := hu ⟨16 * b.val, show 16 * b.val < 32 by omega⟩
  rw [hb] at h
  have e : (⟨16 * b.val / 16, by omega⟩ : Fin 2) = b := Fin.ext (show 16 * b.val / 16 = b.val by omega)
  rw [← e]
  exact h

end Cert.Topk

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_untied_KernelIdeal
public import proofs.«01_k».proof.Proof.Gen.Pre_untied_ReferenceIdeal
public import proofs.«01_k».proof.Proof.Kernel.Run
public import proofs.«01_k».proof.Proof.KernelIdeal.Run
public import proofs.«01_k».proof.Proof.Value.Equation

@[expose] public section

set_option maxRecDepth 16384

noncomputable section

namespace Cert.Proof

open Idealize.ShloMosaic Idealize.SL.Sem

/-- The kernel runs, keeps its argument, and ends with every counter at zero. -/
theorem frame_kernel : Cert.quiescent_Kernel := fun m g _ =>
  (θ_run _ _ _).mono (fun _ h => ⟨fun c => (h.1 c).2, h.2⟩) (Cert.Kernel.Topk.run_all (F := Bits) m g)

/-- So does its ideal form. -/
theorem frame_ideal : Cert.quiescent_KernelIdeal := fun m g _ =>
  (θ_run _ _ _).mono (fun _ h => ⟨fun c => (h.1 c).2, h.2⟩) (Cert.KernelIdeal.Topk.run_all (F := Ideal) m g)

/-- The reference runs, keeps its argument, and has no counters. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- On untied blocks every device ends with the reference's result. -/
theorem equal : Cert.algebraic_KernelIdeal_ReferenceIdeal_pre_untied_KernelIdeal := by
  intro m g m' g' hpre hblock
  have hv := Cert.Topk.merge_blocks
    (fun c => m ((c.tc : Thread Cert.KernelIdeal.nD Cert.KernelIdeal.τ).loc Cert.KernelIdeal.main_arg0))
    (m' (((0 : Dev Cert.ReferenceIdeal.nD).tc : Thread Cert.ReferenceIdeal.nD Cert.ReferenceIdeal.τ).loc Cert.ReferenceIdeal.main_arg0))
    hblock hpre
  refine ⟨_, (θ_run _ _ _).mono (fun r h c => ⟨(h.1 c).1.trans (hv c), (h.1 c).2⟩)
    (Cert.KernelIdeal.Topk.run_all (F := Ideal) m g), ?_⟩
  exact (θ_run _ _ _).mono (fun r h => ⟨(h 0).1, (h 0).2⟩) (Cert.ReferenceIdeal.Value.run (F := Ideal) m' g')

/-- Every claim. -/
theorem claim : Cert.Claim := ⟨Cert.Kernel.Gen.facts, Cert.KernelIdeal.Gen.facts, Cert.ReferenceIdeal.Gen.facts,
  Cert.Pre_untied_KernelIdeal.Gen.facts, Cert.Pre_untied_ReferenceIdeal.Gen.facts,
  frame_kernel, frame_ideal, fun m g _ => frame_ideal m g trivial, frame_reference,
  fun m g _ => frame_reference m g trivial, trivial, equal⟩

end Cert.Proof

end
